-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 512]⟩ ⟨2, ![4096, 8192]⟩ 1 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x512 : Shape := ⟨2, ![4096, 512]⟩
abbrev S16x128x4096 : Shape := ⟨3, ![16, 128, 4096]⟩
abbrev S15x4 : Shape := ⟨2, ![15, 4]⟩
abbrev S_ : Shape := ⟨0, ![]⟩
abbrev S128x4096 : Shape := ⟨2, ![128, 4096]⟩
abbrev S1x128x4096 : Shape := ⟨3, ![1, 128, 4096]⟩
abbrev S1x1 : Shape := ⟨2, ![1, 1]⟩
abbrev S1x32x4096 : Shape := ⟨3, ![1, 32, 4096]⟩
abbrev S32x4096 : Shape := ⟨2, ![32, 4096]⟩
abbrev S256x512 : Shape := ⟨2, ![256, 512]⟩
abbrev S128x512 : Shape := ⟨2, ![128, 512]⟩

abbrev nBuf : Space → Nat
  | .hbm => 3
  | .vmem => 5
  | .smem => 0
  | _ => 0

abbrev bufTy : (tb : Table) → Fin (tcTables nBuf tb) → BufTy
  | .hbm, ⟨0, _⟩ => ⟨S256x4096, .bf16⟩
  | .hbm, ⟨1, _⟩ => ⟨S4096x512, .bf16⟩
  | .hbm, ⟨2, _⟩ => ⟨S4096x512, .f32⟩
  | .local _ .vmem, ⟨0, _⟩ => ⟨S256x4096, .bf16⟩
  | .local _ .vmem, ⟨1, _⟩ => ⟨S4096x512, .bf16⟩
  | .local _ .vmem, ⟨2, _⟩ => ⟨S4096x512, .f32⟩
  | .local _ .vmem, ⟨3, _⟩ => ⟨S16x128x4096, .bf16⟩
  | .local _ .vmem, ⟨4, _⟩ => ⟨S16x128x4096, .bf16⟩
  | _, _ => ⟨S256x4096, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 243 → Bool
  | ⟨i, _⟩ => dmaSemScopedAt i

abbrev sig : RefSig :=
  (ofTc nBuf bufTy 1 243 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_24 : BitVec 32 := 1#32
  let v23 : BitVec 32 := Scalar.muli v7 c1_i32_24
  let v24 : BitVec 32 := Scalar.addi c0_i32_25 v23
  v24.toNat
def k0_dev4 (d0 : Dev nD) : Nat :=
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_36 : BitVec 32 := 1#32
  let v33 : BitVec 32 := Scalar.muli v5 c1_i32_36
  let v34 : BitVec 32 := Scalar.addi c0_i32_37 v33
  v34.toNat
def k0_dev5 (d0 : Dev nD) : Nat :=
  let c0_i32_49 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_48 : BitVec 32 := 1#32
  let v43 : BitVec 32 := Scalar.muli v7 c1_i32_48
  let v44 : BitVec 32 := Scalar.addi c0_i32_49 v43
  v44.toNat
def k0_dev6 (d0 : Dev nD) : Nat :=
  let c0_i32_60 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_59 : BitVec 32 := 1#32
  let v53 : BitVec 32 := Scalar.muli v5 c1_i32_59
  let v54 : BitVec 32 := Scalar.addi c0_i32_60 v53
  v54.toNat
def k0_dev7 (d0 : Dev nD) : Nat :=
  let c0_i32_72 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_71 : BitVec 32 := 1#32
  let v63 : BitVec 32 := Scalar.muli v7 c1_i32_71
  let v64 : BitVec 32 := Scalar.addi c0_i32_72 v63
  v64.toNat
def k0_dev8 (d0 : Dev nD) : Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_82 : BitVec 32 := 1#32
  let v73 : BitVec 32 := Scalar.muli v5 c1_i32_82
  let v74 : BitVec 32 := Scalar.addi c0_i32_83 v73
  v74.toNat
def k0_dev9 (d0 : Dev nD) : Nat :=
  let c0_i32_94 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_93 : BitVec 32 := 1#32
  let v83 : BitVec 32 := Scalar.muli v7 c1_i32_93
  let v84 : BitVec 32 := Scalar.addi c0_i32_94 v83
  v84.toNat
def k0_dev10 (d0 : Dev nD) : Nat :=
  let c0_i32_105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_104 : BitVec 32 := 1#32
  let v93 : BitVec 32 := Scalar.muli v5 c1_i32_104
  let v94 : BitVec 32 := Scalar.addi c0_i32_105 v93
  v94.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v116 : BitVec 32 := Scalar.muli v2 c256_i32
  let v117 : Index := Scalar.indexCast v116
  let c0_117 : Index := 0#32
  ![v117.toNat, 0]
def k0_dev11 (d0 : Dev nD) : Nat :=
  let c0_i32_137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_136 : BitVec 32 := 1#32
  let v127 : BitVec 32 := Scalar.muli v7 c1_i32_136
  let v128 : BitVec 32 := Scalar.addi c0_i32_137 v127
  v128.toNat
def k0_dev12 (d0 : Dev nD) : Nat :=
  let c0_i32_161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_160 : BitVec 32 := 1#32
  let v145 : BitVec 32 := Scalar.muli v5 c1_i32_160
  let v146 : BitVec 32 := Scalar.addi c0_i32_161 v145
  v146.toNat
def k0_dev13 (d0 : Dev nD) : Nat :=
  let c0_i32_185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_184 : BitVec 32 := 1#32
  let v163 : BitVec 32 := Scalar.muli v7 c1_i32_184
  let v164 : BitVec 32 := Scalar.addi c0_i32_185 v163
  v164.toNat
def k0_dev14 (d0 : Dev nD) : Nat :=
  let c0_i32_209 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_208 : BitVec 32 := 1#32
  let v181 : BitVec 32 := Scalar.muli v5 c1_i32_208
  let v182 : BitVec 32 := Scalar.addi c0_i32_209 v181
  v182.toNat
def k0_dev15 (d0 : Dev nD) : Nat :=
  let c0_i32_233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_232 : BitVec 32 := 1#32
  let v199 : BitVec 32 := Scalar.muli v7 c1_i32_232
  let v200 : BitVec 32 := Scalar.addi c0_i32_233 v199
  v200.toNat
def k0_dev16 (d0 : Dev nD) : Nat :=
  let c0_i32_257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_256 : BitVec 32 := 1#32
  let v217 : BitVec 32 := Scalar.muli v5 c1_i32_256
  let v218 : BitVec 32 := Scalar.addi c0_i32_257 v217
  v218.toNat
def k0_dev17 (d0 : Dev nD) : Nat :=
  let c0_i32_281 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_280 : BitVec 32 := 1#32
  let v235 : BitVec 32 := Scalar.muli v7 c1_i32_280
  let v236 : BitVec 32 := Scalar.addi c0_i32_281 v235
  v236.toNat
def k0_dev18 (d0 : Dev nD) : Nat :=
  let c0_i32_305 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_304 : BitVec 32 := 1#32
  let v253 : BitVec 32 := Scalar.muli v5 c1_i32_304
  let v254 : BitVec 32 := Scalar.addi c0_i32_305 v253
  v254.toNat
def k0_off2 (d0 : Dev nD) (c0_i32_312 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_310 : BitVec 32 := 16#32
  let v263 : BitVec 32 := Scalar.addi v2 c16_i32_310
  let c1_i32_311 : BitVec 32 := 1#32
  let v264 : BitVec 32 := Scalar.subi v263 c1_i32_311
  let v265 : BitVec 32 := Scalar.subi v264 c0_i32_312
  let c16_i32_313 : BitVec 32 := 16#32
  let v266 : BitVec 32 := Scalar.remsi v265 c16_i32_313
  let c256_i32_322 : BitVec 32 := 256#32
  let v280 : BitVec 32 := Scalar.muli v266 c256_i32_322
  let v281 : Index := Scalar.indexCast v280
  let c0_323 : Index := 0#32
  ![v281.toNat, 0]
def k0_off3 (d0 : Dev nD) (c0_i32_324 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v283 : BitVec 32 := Scalar.addi v2 c0_i32_324
  let c1_i32_325 : BitVec 32 := 1#32
  let v284 : BitVec 32 := Scalar.addi v283 c1_i32_325
  let c16_i32_326 : BitVec 32 := 16#32
  let v285 : BitVec 32 := Scalar.remsi v284 c16_i32_326
  let c256_i32_336 : BitVec 32 := 256#32
  let v299 : BitVec 32 := Scalar.muli v285 c256_i32_336
  let c128_i32 : BitVec 32 := 128#32
  let v300 : BitVec 32 := Scalar.addi v299 c128_i32
  let v301 : Index := Scalar.indexCast v300
  let c0_337 : Index := 0#32
  ![v301.toNat, 0]
def k0_dev19 (d0 : Dev nD) : Nat :=
  let c0_i32_357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_356 : BitVec 32 := 1#32
  let v311 : BitVec 32 := Scalar.muli v7 c1_i32_356
  let v312 : BitVec 32 := Scalar.addi c0_i32_357 v311
  v312.toNat
def k0_dev20 (d0 : Dev nD) : Nat :=
  let c0_i32_381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_380 : BitVec 32 := 1#32
  let v329 : BitVec 32 := Scalar.muli v5 c1_i32_380
  let v330 : BitVec 32 := Scalar.addi c0_i32_381 v329
  v330.toNat
def k0_dev21 (d0 : Dev nD) : Nat :=
  let c0_i32_405 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_404 : BitVec 32 := 1#32
  let v347 : BitVec 32 := Scalar.muli v7 c1_i32_404
  let v348 : BitVec 32 := Scalar.addi c0_i32_405 v347
  v348.toNat
def k0_dev22 (d0 : Dev nD) : Nat :=
  let c0_i32_429 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_428 : BitVec 32 := 1#32
  let v365 : BitVec 32 := Scalar.muli v5 c1_i32_428
  let v366 : BitVec 32 := Scalar.addi c0_i32_429 v365
  v366.toNat
def k0_dev23 (d0 : Dev nD) : Nat :=
  let c0_i32_453 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_452 : BitVec 32 := 1#32
  let v383 : BitVec 32 := Scalar.muli v7 c1_i32_452
  let v384 : BitVec 32 := Scalar.addi c0_i32_453 v383
  v384.toNat
def k0_dev24 (d0 : Dev nD) : Nat :=
  let c0_i32_477 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_476 : BitVec 32 := 1#32
  let v401 : BitVec 32 := Scalar.muli v5 c1_i32_476
  let v402 : BitVec 32 := Scalar.addi c0_i32_477 v401
  v402.toNat
def k0_dev25 (d0 : Dev nD) : Nat :=
  let c0_i32_501 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_500 : BitVec 32 := 1#32
  let v419 : BitVec 32 := Scalar.muli v7 c1_i32_500
  let v420 : BitVec 32 := Scalar.addi c0_i32_501 v419
  v420.toNat
def k0_dev26 (d0 : Dev nD) : Nat :=
  let c0_i32_525 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_524 : BitVec 32 := 1#32
  let v437 : BitVec 32 := Scalar.muli v5 c1_i32_524
  let v438 : BitVec 32 := Scalar.addi c0_i32_525 v437
  v438.toNat
def k0_dev27 (d0 : Dev nD) : Nat :=
  let c0_i32_577 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_576 : BitVec 32 := 1#32
  let v495 : BitVec 32 := Scalar.muli v7 c1_i32_576
  let v496 : BitVec 32 := Scalar.addi c0_i32_577 v495
  v496.toNat
def k0_dev28 (d0 : Dev nD) : Nat :=
  let c0_i32_601 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_600 : BitVec 32 := 1#32
  let v513 : BitVec 32 := Scalar.muli v5 c1_i32_600
  let v514 : BitVec 32 := Scalar.addi c0_i32_601 v513
  v514.toNat
def k0_dev29 (d0 : Dev nD) : Nat :=
  let c0_i32_625 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_624 : BitVec 32 := 1#32
  let v531 : BitVec 32 := Scalar.muli v7 c1_i32_624
  let v532 : BitVec 32 := Scalar.addi c0_i32_625 v531
  v532.toNat
def k0_dev30 (d0 : Dev nD) : Nat :=
  let c0_i32_649 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_648 : BitVec 32 := 1#32
  let v549 : BitVec 32 := Scalar.muli v5 c1_i32_648
  let v550 : BitVec 32 := Scalar.addi c0_i32_649 v549
  v550.toNat
def k0_dev31 (d0 : Dev nD) : Nat :=
  let c0_i32_673 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_672 : BitVec 32 := 1#32
  let v567 : BitVec 32 := Scalar.muli v7 c1_i32_672
  let v568 : BitVec 32 := Scalar.addi c0_i32_673 v567
  v568.toNat
def k0_dev32 (d0 : Dev nD) : Nat :=
  let c0_i32_697 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_696 : BitVec 32 := 1#32
  let v585 : BitVec 32 := Scalar.muli v5 c1_i32_696
  let v586 : BitVec 32 := Scalar.addi c0_i32_697 v585
  v586.toNat
def k0_dev33 (d0 : Dev nD) : Nat :=
  let c0_i32_721 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_720 : BitVec 32 := 1#32
  let v603 : BitVec 32 := Scalar.muli v7 c1_i32_720
  let v604 : BitVec 32 := Scalar.addi c0_i32_721 v603
  v604.toNat
def k0_dev34 (d0 : Dev nD) : Nat :=
  let c0_i32_745 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_744 : BitVec 32 := 1#32
  let v621 : BitVec 32 := Scalar.muli v5 c1_i32_744
  let v622 : BitVec 32 := Scalar.addi c0_i32_745 v621
  v622.toNat
def k0_dev35 (d0 : Dev nD) : Nat :=
  let c0_i32_797 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_796 : BitVec 32 := 1#32
  let v679 : BitVec 32 := Scalar.muli v7 c1_i32_796
  let v680 : BitVec 32 := Scalar.addi c0_i32_797 v679
  v680.toNat
def k0_dev36 (d0 : Dev nD) : Nat :=
  let c0_i32_821 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_820 : BitVec 32 := 1#32
  let v697 : BitVec 32 := Scalar.muli v5 c1_i32_820
  let v698 : BitVec 32 := Scalar.addi c0_i32_821 v697
  v698.toNat
def k0_dev37 (d0 : Dev nD) : Nat :=
  let c0_i32_845 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_844 : BitVec 32 := 1#32
  let v715 : BitVec 32 := Scalar.muli v7 c1_i32_844
  let v716 : BitVec 32 := Scalar.addi c0_i32_845 v715
  v716.toNat
def k0_dev38 (d0 : Dev nD) : Nat :=
  let c0_i32_869 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_868 : BitVec 32 := 1#32
  let v733 : BitVec 32 := Scalar.muli v5 c1_i32_868
  let v734 : BitVec 32 := Scalar.addi c0_i32_869 v733
  v734.toNat
def k0_dev39 (d0 : Dev nD) : Nat :=
  let c0_i32_893 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_892 : BitVec 32 := 1#32
  let v751 : BitVec 32 := Scalar.muli v7 c1_i32_892
  let v752 : BitVec 32 := Scalar.addi c0_i32_893 v751
  v752.toNat
def k0_dev40 (d0 : Dev nD) : Nat :=
  let c0_i32_917 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_916 : BitVec 32 := 1#32
  let v769 : BitVec 32 := Scalar.muli v5 c1_i32_916
  let v770 : BitVec 32 := Scalar.addi c0_i32_917 v769
  v770.toNat
def k0_dev41 (d0 : Dev nD) : Nat :=
  let c0_i32_941 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_940 : BitVec 32 := 1#32
  let v787 : BitVec 32 := Scalar.muli v7 c1_i32_940
  let v788 : BitVec 32 := Scalar.addi c0_i32_941 v787
  v788.toNat
def k0_dev42 (d0 : Dev nD) : Nat :=
  let c0_i32_965 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_964 : BitVec 32 := 1#32
  let v805 : BitVec 32 := Scalar.muli v5 c1_i32_964
  let v806 : BitVec 32 := Scalar.addi c0_i32_965 v805
  v806.toNat
def k0_dev43 (d0 : Dev nD) : Nat :=
  let c0_i32_1017 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1016 : BitVec 32 := 1#32
  let v863 : BitVec 32 := Scalar.muli v7 c1_i32_1016
  let v864 : BitVec 32 := Scalar.addi c0_i32_1017 v863
  v864.toNat
def k0_dev44 (d0 : Dev nD) : Nat :=
  let c0_i32_1041 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1040 : BitVec 32 := 1#32
  let v881 : BitVec 32 := Scalar.muli v5 c1_i32_1040
  let v882 : BitVec 32 := Scalar.addi c0_i32_1041 v881
  v882.toNat
def k0_dev45 (d0 : Dev nD) : Nat :=
  let c0_i32_1065 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1064 : BitVec 32 := 1#32
  let v899 : BitVec 32 := Scalar.muli v7 c1_i32_1064
  let v900 : BitVec 32 := Scalar.addi c0_i32_1065 v899
  v900.toNat
def k0_dev46 (d0 : Dev nD) : Nat :=
  let c0_i32_1089 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1088 : BitVec 32 := 1#32
  let v917 : BitVec 32 := Scalar.muli v5 c1_i32_1088
  let v918 : BitVec 32 := Scalar.addi c0_i32_1089 v917
  v918.toNat
def k0_dev47 (d0 : Dev nD) : Nat :=
  let c0_i32_1113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1112 : BitVec 32 := 1#32
  let v935 : BitVec 32 := Scalar.muli v7 c1_i32_1112
  let v936 : BitVec 32 := Scalar.addi c0_i32_1113 v935
  v936.toNat
def k0_dev48 (d0 : Dev nD) : Nat :=
  let c0_i32_1137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1136 : BitVec 32 := 1#32
  let v953 : BitVec 32 := Scalar.muli v5 c1_i32_1136
  let v954 : BitVec 32 := Scalar.addi c0_i32_1137 v953
  v954.toNat
def k0_dev49 (d0 : Dev nD) : Nat :=
  let c0_i32_1161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1160 : BitVec 32 := 1#32
  let v971 : BitVec 32 := Scalar.muli v7 c1_i32_1160
  let v972 : BitVec 32 := Scalar.addi c0_i32_1161 v971
  v972.toNat
def k0_dev50 (d0 : Dev nD) : Nat :=
  let c0_i32_1185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1184 : BitVec 32 := 1#32
  let v989 : BitVec 32 := Scalar.muli v5 c1_i32_1184
  let v990 : BitVec 32 := Scalar.addi c0_i32_1185 v989
  v990.toNat
def k0_dev51 (d0 : Dev nD) : Nat :=
  let c0_i32_1237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1236 : BitVec 32 := 1#32
  let v1047 : BitVec 32 := Scalar.muli v7 c1_i32_1236
  let v1048 : BitVec 32 := Scalar.addi c0_i32_1237 v1047
  v1048.toNat
def k0_dev52 (d0 : Dev nD) : Nat :=
  let c0_i32_1261 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1260 : BitVec 32 := 1#32
  let v1065 : BitVec 32 := Scalar.muli v5 c1_i32_1260
  let v1066 : BitVec 32 := Scalar.addi c0_i32_1261 v1065
  v1066.toNat
def k0_dev53 (d0 : Dev nD) : Nat :=
  let c0_i32_1285 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1284 : BitVec 32 := 1#32
  let v1083 : BitVec 32 := Scalar.muli v7 c1_i32_1284
  let v1084 : BitVec 32 := Scalar.addi c0_i32_1285 v1083
  v1084.toNat
def k0_dev54 (d0 : Dev nD) : Nat :=
  let c0_i32_1309 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1308 : BitVec 32 := 1#32
  let v1101 : BitVec 32 := Scalar.muli v5 c1_i32_1308
  let v1102 : BitVec 32 := Scalar.addi c0_i32_1309 v1101
  v1102.toNat
def k0_dev55 (d0 : Dev nD) : Nat :=
  let c0_i32_1333 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1332 : BitVec 32 := 1#32
  let v1119 : BitVec 32 := Scalar.muli v7 c1_i32_1332
  let v1120 : BitVec 32 := Scalar.addi c0_i32_1333 v1119
  v1120.toNat
def k0_dev56 (d0 : Dev nD) : Nat :=
  let c0_i32_1357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1356 : BitVec 32 := 1#32
  let v1137 : BitVec 32 := Scalar.muli v5 c1_i32_1356
  let v1138 : BitVec 32 := Scalar.addi c0_i32_1357 v1137
  v1138.toNat
def k0_dev57 (d0 : Dev nD) : Nat :=
  let c0_i32_1381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1380 : BitVec 32 := 1#32
  let v1155 : BitVec 32 := Scalar.muli v7 c1_i32_1380
  let v1156 : BitVec 32 := Scalar.addi c0_i32_1381 v1155
  v1156.toNat
def k0_dev58 (d0 : Dev nD) : Nat :=
  let c0_i32_1405 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1404 : BitVec 32 := 1#32
  let v1173 : BitVec 32 := Scalar.muli v5 c1_i32_1404
  let v1174 : BitVec 32 := Scalar.addi c0_i32_1405 v1173
  v1174.toNat
def k0_dev59 (d0 : Dev nD) : Nat :=
  let c0_i32_1457 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1456 : BitVec 32 := 1#32
  let v1231 : BitVec 32 := Scalar.muli v7 c1_i32_1456
  let v1232 : BitVec 32 := Scalar.addi c0_i32_1457 v1231
  v1232.toNat
def k0_dev60 (d0 : Dev nD) : Nat :=
  let c0_i32_1481 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1480 : BitVec 32 := 1#32
  let v1249 : BitVec 32 := Scalar.muli v5 c1_i32_1480
  let v1250 : BitVec 32 := Scalar.addi c0_i32_1481 v1249
  v1250.toNat
def k0_dev61 (d0 : Dev nD) : Nat :=
  let c0_i32_1505 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1504 : BitVec 32 := 1#32
  let v1267 : BitVec 32 := Scalar.muli v7 c1_i32_1504
  let v1268 : BitVec 32 := Scalar.addi c0_i32_1505 v1267
  v1268.toNat
def k0_dev62 (d0 : Dev nD) : Nat :=
  let c0_i32_1529 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1528 : BitVec 32 := 1#32
  let v1285 : BitVec 32 := Scalar.muli v5 c1_i32_1528
  let v1286 : BitVec 32 := Scalar.addi c0_i32_1529 v1285
  v1286.toNat
def k0_dev63 (d0 : Dev nD) : Nat :=
  let c0_i32_1553 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1552 : BitVec 32 := 1#32
  let v1303 : BitVec 32 := Scalar.muli v7 c1_i32_1552
  let v1304 : BitVec 32 := Scalar.addi c0_i32_1553 v1303
  v1304.toNat
def k0_dev64 (d0 : Dev nD) : Nat :=
  let c0_i32_1577 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1576 : BitVec 32 := 1#32
  let v1321 : BitVec 32 := Scalar.muli v5 c1_i32_1576
  let v1322 : BitVec 32 := Scalar.addi c0_i32_1577 v1321
  v1322.toNat
def k0_dev65 (d0 : Dev nD) : Nat :=
  let c0_i32_1601 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1600 : BitVec 32 := 1#32
  let v1339 : BitVec 32 := Scalar.muli v7 c1_i32_1600
  let v1340 : BitVec 32 := Scalar.addi c0_i32_1601 v1339
  v1340.toNat
def k0_dev66 (d0 : Dev nD) : Nat :=
  let c0_i32_1625 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1624 : BitVec 32 := 1#32
  let v1357 : BitVec 32 := Scalar.muli v5 c1_i32_1624
  let v1358 : BitVec 32 := Scalar.addi c0_i32_1625 v1357
  v1358.toNat
def k0_dev67 (d0 : Dev nD) : Nat :=
  let c0_i32_1677 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1676 : BitVec 32 := 1#32
  let v1415 : BitVec 32 := Scalar.muli v7 c1_i32_1676
  let v1416 : BitVec 32 := Scalar.addi c0_i32_1677 v1415
  v1416.toNat
def k0_dev68 (d0 : Dev nD) : Nat :=
  let c0_i32_1701 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1700 : BitVec 32 := 1#32
  let v1433 : BitVec 32 := Scalar.muli v5 c1_i32_1700
  let v1434 : BitVec 32 := Scalar.addi c0_i32_1701 v1433
  v1434.toNat
def k0_dev69 (d0 : Dev nD) : Nat :=
  let c0_i32_1725 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1724 : BitVec 32 := 1#32
  let v1451 : BitVec 32 := Scalar.muli v7 c1_i32_1724
  let v1452 : BitVec 32 := Scalar.addi c0_i32_1725 v1451
  v1452.toNat
def k0_dev70 (d0 : Dev nD) : Nat :=
  let c0_i32_1749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1748 : BitVec 32 := 1#32
  let v1469 : BitVec 32 := Scalar.muli v5 c1_i32_1748
  let v1470 : BitVec 32 := Scalar.addi c0_i32_1749 v1469
  v1470.toNat
def k0_dev71 (d0 : Dev nD) : Nat :=
  let c0_i32_1773 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1772 : BitVec 32 := 1#32
  let v1487 : BitVec 32 := Scalar.muli v7 c1_i32_1772
  let v1488 : BitVec 32 := Scalar.addi c0_i32_1773 v1487
  v1488.toNat
def k0_dev72 (d0 : Dev nD) : Nat :=
  let c0_i32_1797 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1796 : BitVec 32 := 1#32
  let v1505 : BitVec 32 := Scalar.muli v5 c1_i32_1796
  let v1506 : BitVec 32 := Scalar.addi c0_i32_1797 v1505
  v1506.toNat
def k0_dev73 (d0 : Dev nD) : Nat :=
  let c0_i32_1821 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1820 : BitVec 32 := 1#32
  let v1523 : BitVec 32 := Scalar.muli v7 c1_i32_1820
  let v1524 : BitVec 32 := Scalar.addi c0_i32_1821 v1523
  v1524.toNat
def k0_dev74 (d0 : Dev nD) : Nat :=
  let c0_i32_1845 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1844 : BitVec 32 := 1#32
  let v1541 : BitVec 32 := Scalar.muli v5 c1_i32_1844
  let v1542 : BitVec 32 := Scalar.addi c0_i32_1845 v1541
  v1542.toNat
def k0_dev75 (d0 : Dev nD) : Nat :=
  let c0_i32_1897 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1896 : BitVec 32 := 1#32
  let v1599 : BitVec 32 := Scalar.muli v7 c1_i32_1896
  let v1600 : BitVec 32 := Scalar.addi c0_i32_1897 v1599
  v1600.toNat
def k0_dev76 (d0 : Dev nD) : Nat :=
  let c0_i32_1921 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1920 : BitVec 32 := 1#32
  let v1617 : BitVec 32 := Scalar.muli v5 c1_i32_1920
  let v1618 : BitVec 32 := Scalar.addi c0_i32_1921 v1617
  v1618.toNat
def k0_dev77 (d0 : Dev nD) : Nat :=
  let c0_i32_1945 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1944 : BitVec 32 := 1#32
  let v1635 : BitVec 32 := Scalar.muli v7 c1_i32_1944
  let v1636 : BitVec 32 := Scalar.addi c0_i32_1945 v1635
  v1636.toNat
def k0_dev78 (d0 : Dev nD) : Nat :=
  let c0_i32_1969 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1968 : BitVec 32 := 1#32
  let v1653 : BitVec 32 := Scalar.muli v5 c1_i32_1968
  let v1654 : BitVec 32 := Scalar.addi c0_i32_1969 v1653
  v1654.toNat
def k0_dev79 (d0 : Dev nD) : Nat :=
  let c0_i32_1993 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1992 : BitVec 32 := 1#32
  let v1671 : BitVec 32 := Scalar.muli v7 c1_i32_1992
  let v1672 : BitVec 32 := Scalar.addi c0_i32_1993 v1671
  v1672.toNat
def k0_dev80 (d0 : Dev nD) : Nat :=
  let c0_i32_2017 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2016 : BitVec 32 := 1#32
  let v1689 : BitVec 32 := Scalar.muli v5 c1_i32_2016
  let v1690 : BitVec 32 := Scalar.addi c0_i32_2017 v1689
  v1690.toNat
def k0_dev81 (d0 : Dev nD) : Nat :=
  let c0_i32_2041 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2040 : BitVec 32 := 1#32
  let v1707 : BitVec 32 := Scalar.muli v7 c1_i32_2040
  let v1708 : BitVec 32 := Scalar.addi c0_i32_2041 v1707
  v1708.toNat
def k0_dev82 (d0 : Dev nD) : Nat :=
  let c0_i32_2065 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2064 : BitVec 32 := 1#32
  let v1725 : BitVec 32 := Scalar.muli v5 c1_i32_2064
  let v1726 : BitVec 32 := Scalar.addi c0_i32_2065 v1725
  v1726.toNat
def k0_dev83 (d0 : Dev nD) : Nat :=
  let c0_i32_2117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2116 : BitVec 32 := 1#32
  let v1783 : BitVec 32 := Scalar.muli v7 c1_i32_2116
  let v1784 : BitVec 32 := Scalar.addi c0_i32_2117 v1783
  v1784.toNat
def k0_dev84 (d0 : Dev nD) : Nat :=
  let c0_i32_2141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2140 : BitVec 32 := 1#32
  let v1801 : BitVec 32 := Scalar.muli v5 c1_i32_2140
  let v1802 : BitVec 32 := Scalar.addi c0_i32_2141 v1801
  v1802.toNat
def k0_dev85 (d0 : Dev nD) : Nat :=
  let c0_i32_2165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2164 : BitVec 32 := 1#32
  let v1819 : BitVec 32 := Scalar.muli v7 c1_i32_2164
  let v1820 : BitVec 32 := Scalar.addi c0_i32_2165 v1819
  v1820.toNat
def k0_dev86 (d0 : Dev nD) : Nat :=
  let c0_i32_2189 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2188 : BitVec 32 := 1#32
  let v1837 : BitVec 32 := Scalar.muli v5 c1_i32_2188
  let v1838 : BitVec 32 := Scalar.addi c0_i32_2189 v1837
  v1838.toNat
def k0_dev87 (d0 : Dev nD) : Nat :=
  let c0_i32_2213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2212 : BitVec 32 := 1#32
  let v1855 : BitVec 32 := Scalar.muli v7 c1_i32_2212
  let v1856 : BitVec 32 := Scalar.addi c0_i32_2213 v1855
  v1856.toNat
def k0_dev88 (d0 : Dev nD) : Nat :=
  let c0_i32_2237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2236 : BitVec 32 := 1#32
  let v1873 : BitVec 32 := Scalar.muli v5 c1_i32_2236
  let v1874 : BitVec 32 := Scalar.addi c0_i32_2237 v1873
  v1874.toNat
def k0_dev89 (d0 : Dev nD) : Nat :=
  let c0_i32_2261 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2260 : BitVec 32 := 1#32
  let v1891 : BitVec 32 := Scalar.muli v7 c1_i32_2260
  let v1892 : BitVec 32 := Scalar.addi c0_i32_2261 v1891
  v1892.toNat
def k0_dev90 (d0 : Dev nD) : Nat :=
  let c0_i32_2285 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2284 : BitVec 32 := 1#32
  let v1909 : BitVec 32 := Scalar.muli v5 c1_i32_2284
  let v1910 : BitVec 32 := Scalar.addi c0_i32_2285 v1909
  v1910.toNat
def k0_dev91 (d0 : Dev nD) : Nat :=
  let c0_i32_2337 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2336 : BitVec 32 := 1#32
  let v1967 : BitVec 32 := Scalar.muli v7 c1_i32_2336
  let v1968 : BitVec 32 := Scalar.addi c0_i32_2337 v1967
  v1968.toNat
def k0_dev92 (d0 : Dev nD) : Nat :=
  let c0_i32_2361 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2360 : BitVec 32 := 1#32
  let v1985 : BitVec 32 := Scalar.muli v5 c1_i32_2360
  let v1986 : BitVec 32 := Scalar.addi c0_i32_2361 v1985
  v1986.toNat
def k0_dev93 (d0 : Dev nD) : Nat :=
  let c0_i32_2385 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2384 : BitVec 32 := 1#32
  let v2003 : BitVec 32 := Scalar.muli v7 c1_i32_2384
  let v2004 : BitVec 32 := Scalar.addi c0_i32_2385 v2003
  v2004.toNat
def k0_dev94 (d0 : Dev nD) : Nat :=
  let c0_i32_2409 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2408 : BitVec 32 := 1#32
  let v2021 : BitVec 32 := Scalar.muli v5 c1_i32_2408
  let v2022 : BitVec 32 := Scalar.addi c0_i32_2409 v2021
  v2022.toNat
def k0_dev95 (d0 : Dev nD) : Nat :=
  let c0_i32_2433 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2432 : BitVec 32 := 1#32
  let v2039 : BitVec 32 := Scalar.muli v7 c1_i32_2432
  let v2040 : BitVec 32 := Scalar.addi c0_i32_2433 v2039
  v2040.toNat
def k0_dev96 (d0 : Dev nD) : Nat :=
  let c0_i32_2457 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2456 : BitVec 32 := 1#32
  let v2057 : BitVec 32 := Scalar.muli v5 c1_i32_2456
  let v2058 : BitVec 32 := Scalar.addi c0_i32_2457 v2057
  v2058.toNat
def k0_dev97 (d0 : Dev nD) : Nat :=
  let c0_i32_2481 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2480 : BitVec 32 := 1#32
  let v2075 : BitVec 32 := Scalar.muli v7 c1_i32_2480
  let v2076 : BitVec 32 := Scalar.addi c0_i32_2481 v2075
  v2076.toNat
def k0_dev98 (d0 : Dev nD) : Nat :=
  let c0_i32_2505 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2504 : BitVec 32 := 1#32
  let v2093 : BitVec 32 := Scalar.muli v5 c1_i32_2504
  let v2094 : BitVec 32 := Scalar.addi c0_i32_2505 v2093
  v2094.toNat
def k0_dev99 (d0 : Dev nD) : Nat :=
  let c0_i32_2557 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2556 : BitVec 32 := 1#32
  let v2151 : BitVec 32 := Scalar.muli v7 c1_i32_2556
  let v2152 : BitVec 32 := Scalar.addi c0_i32_2557 v2151
  v2152.toNat
def k0_dev100 (d0 : Dev nD) : Nat :=
  let c0_i32_2581 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2580 : BitVec 32 := 1#32
  let v2169 : BitVec 32 := Scalar.muli v5 c1_i32_2580
  let v2170 : BitVec 32 := Scalar.addi c0_i32_2581 v2169
  v2170.toNat
def k0_dev101 (d0 : Dev nD) : Nat :=
  let c0_i32_2605 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2604 : BitVec 32 := 1#32
  let v2187 : BitVec 32 := Scalar.muli v7 c1_i32_2604
  let v2188 : BitVec 32 := Scalar.addi c0_i32_2605 v2187
  v2188.toNat
def k0_dev102 (d0 : Dev nD) : Nat :=
  let c0_i32_2629 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2628 : BitVec 32 := 1#32
  let v2205 : BitVec 32 := Scalar.muli v5 c1_i32_2628
  let v2206 : BitVec 32 := Scalar.addi c0_i32_2629 v2205
  v2206.toNat
def k0_dev103 (d0 : Dev nD) : Nat :=
  let c0_i32_2653 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2652 : BitVec 32 := 1#32
  let v2223 : BitVec 32 := Scalar.muli v7 c1_i32_2652
  let v2224 : BitVec 32 := Scalar.addi c0_i32_2653 v2223
  v2224.toNat
def k0_dev104 (d0 : Dev nD) : Nat :=
  let c0_i32_2677 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2676 : BitVec 32 := 1#32
  let v2241 : BitVec 32 := Scalar.muli v5 c1_i32_2676
  let v2242 : BitVec 32 := Scalar.addi c0_i32_2677 v2241
  v2242.toNat
def k0_dev105 (d0 : Dev nD) : Nat :=
  let c0_i32_2701 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2700 : BitVec 32 := 1#32
  let v2259 : BitVec 32 := Scalar.muli v7 c1_i32_2700
  let v2260 : BitVec 32 := Scalar.addi c0_i32_2701 v2259
  v2260.toNat
def k0_dev106 (d0 : Dev nD) : Nat :=
  let c0_i32_2725 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2724 : BitVec 32 := 1#32
  let v2277 : BitVec 32 := Scalar.muli v5 c1_i32_2724
  let v2278 : BitVec 32 := Scalar.addi c0_i32_2725 v2277
  v2278.toNat
def k0_dev107 (d0 : Dev nD) : Nat :=
  let c0_i32_2777 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2776 : BitVec 32 := 1#32
  let v2335 : BitVec 32 := Scalar.muli v7 c1_i32_2776
  let v2336 : BitVec 32 := Scalar.addi c0_i32_2777 v2335
  v2336.toNat
def k0_dev108 (d0 : Dev nD) : Nat :=
  let c0_i32_2801 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2800 : BitVec 32 := 1#32
  let v2353 : BitVec 32 := Scalar.muli v5 c1_i32_2800
  let v2354 : BitVec 32 := Scalar.addi c0_i32_2801 v2353
  v2354.toNat
def k0_dev109 (d0 : Dev nD) : Nat :=
  let c0_i32_2825 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2824 : BitVec 32 := 1#32
  let v2371 : BitVec 32 := Scalar.muli v7 c1_i32_2824
  let v2372 : BitVec 32 := Scalar.addi c0_i32_2825 v2371
  v2372.toNat
def k0_dev110 (d0 : Dev nD) : Nat :=
  let c0_i32_2849 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2848 : BitVec 32 := 1#32
  let v2389 : BitVec 32 := Scalar.muli v5 c1_i32_2848
  let v2390 : BitVec 32 := Scalar.addi c0_i32_2849 v2389
  v2390.toNat
def k0_dev111 (d0 : Dev nD) : Nat :=
  let c0_i32_2873 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2872 : BitVec 32 := 1#32
  let v2407 : BitVec 32 := Scalar.muli v7 c1_i32_2872
  let v2408 : BitVec 32 := Scalar.addi c0_i32_2873 v2407
  v2408.toNat
def k0_dev112 (d0 : Dev nD) : Nat :=
  let c0_i32_2897 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2896 : BitVec 32 := 1#32
  let v2425 : BitVec 32 := Scalar.muli v5 c1_i32_2896
  let v2426 : BitVec 32 := Scalar.addi c0_i32_2897 v2425
  v2426.toNat
def k0_dev113 (d0 : Dev nD) : Nat :=
  let c0_i32_2921 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2920 : BitVec 32 := 1#32
  let v2443 : BitVec 32 := Scalar.muli v7 c1_i32_2920
  let v2444 : BitVec 32 := Scalar.addi c0_i32_2921 v2443
  v2444.toNat
def k0_dev114 (d0 : Dev nD) : Nat :=
  let c0_i32_2945 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2944 : BitVec 32 := 1#32
  let v2461 : BitVec 32 := Scalar.muli v5 c1_i32_2944
  let v2462 : BitVec 32 := Scalar.addi c0_i32_2945 v2461
  v2462.toNat
def k0_dev115 (d0 : Dev nD) : Nat :=
  let c0_i32_2997 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2996 : BitVec 32 := 1#32
  let v2519 : BitVec 32 := Scalar.muli v7 c1_i32_2996
  let v2520 : BitVec 32 := Scalar.addi c0_i32_2997 v2519
  v2520.toNat
def k0_dev116 (d0 : Dev nD) : Nat :=
  let c0_i32_3021 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3020 : BitVec 32 := 1#32
  let v2537 : BitVec 32 := Scalar.muli v5 c1_i32_3020
  let v2538 : BitVec 32 := Scalar.addi c0_i32_3021 v2537
  v2538.toNat
def k0_dev117 (d0 : Dev nD) : Nat :=
  let c0_i32_3045 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3044 : BitVec 32 := 1#32
  let v2555 : BitVec 32 := Scalar.muli v7 c1_i32_3044
  let v2556 : BitVec 32 := Scalar.addi c0_i32_3045 v2555
  v2556.toNat
def k0_dev118 (d0 : Dev nD) : Nat :=
  let c0_i32_3069 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3068 : BitVec 32 := 1#32
  let v2573 : BitVec 32 := Scalar.muli v5 c1_i32_3068
  let v2574 : BitVec 32 := Scalar.addi c0_i32_3069 v2573
  v2574.toNat
def k0_dev119 (d0 : Dev nD) : Nat :=
  let c0_i32_3093 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3092 : BitVec 32 := 1#32
  let v2591 : BitVec 32 := Scalar.muli v7 c1_i32_3092
  let v2592 : BitVec 32 := Scalar.addi c0_i32_3093 v2591
  v2592.toNat
def k0_dev120 (d0 : Dev nD) : Nat :=
  let c0_i32_3117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3116 : BitVec 32 := 1#32
  let v2609 : BitVec 32 := Scalar.muli v5 c1_i32_3116
  let v2610 : BitVec 32 := Scalar.addi c0_i32_3117 v2609
  v2610.toNat
def k0_dev121 (d0 : Dev nD) : Nat :=
  let c0_i32_3141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3140 : BitVec 32 := 1#32
  let v2627 : BitVec 32 := Scalar.muli v7 c1_i32_3140
  let v2628 : BitVec 32 := Scalar.addi c0_i32_3141 v2627
  v2628.toNat
def k0_dev122 (d0 : Dev nD) : Nat :=
  let c0_i32_3165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3164 : BitVec 32 := 1#32
  let v2645 : BitVec 32 := Scalar.muli v5 c1_i32_3164
  let v2646 : BitVec 32 := Scalar.addi c0_i32_3165 v2645
  v2646.toNat
abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .hbm, ⟨3, _⟩ => ⟨S4096x8192, .bf16⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.Prog.lean ====
/-
  The kernel's body, restated as a structured program: the entry handshake, the two stores of the device's own halves, the
  first transfers, the own block's product; then, hop by hop, the four segments of both directions received and sent on
  and the two products; then the waits for the transfers' read-outs. `body_eq` (`BodyEq.lean`) says the printed body IS this
  program.
-/
module

public import proofs.«01_k».proof.Proof.Gen.KernelIdeal.Skeleton

@[expose] public section

noncomputable section

namespace Cert.KernelIdeal.Ring

open Cert.KernelIdeal Cert.KernelIdeal.Gen
open Idealize.ShloMosaic Idealize.SL.Sem

variable {F : FTy → Type} [FloatOps F]

/-- The effects of a TensorCore. -/
abbrev Eff (F : FTy → Type) [FloatOps F] := TpuEff nD τ sig (Elt F) Λ₀ .tc

/-- `f 0`, `f 1`, … in order. -/
def each {E : Type → Type} : (n : ℕ) → (Fin n → Prog E PUnit) → Prog E PUnit
  | 0, _ => pure ⟨⟩
  | n + 1, f => do f 0; each n fun i => f i.succ

/-! ## The views -/

theorem inb_seg : ∀ (h : Fin 16) (s : Fin 4) (a : Fin 3), (![h.val, 32 * s.val, 0] : Fin 3 → Nat) a + S1x32x4096.size a ≤ S16x128x4096.size a := by
  decide
theorem inb_slot : ∀ (h : Fin 16) (a : Fin 3), (![h.val, 0, 0] : Fin 3 → Nat) a + S1x128x4096.size a ≤ S16x128x4096.size a := by
  decide
theorem inb_cell : ∀ (h : Fin 15) (s : Fin 4) (a : Fin 2), (![h.val, s.val] : Fin 2 → Nat) a + S1x1.size a ≤ S15x4.size a := by
  decide

/-- Segment `s` of slot `h`: 32 rows of 4096. -/
abbrev rSeg (h : Fin 16) (s : Fin 4) : Rect S16x128x4096 :=
  Rect.unit (s := S16x128x4096) ![h.val, 32 * s.val, 0] S1x32x4096.size (inb_seg h s)
/-- Slot `h`, whole. -/
abbrev rSlot (h : Fin 16) : Rect S16x128x4096 :=
  Rect.unit (s := S16x128x4096) ![h.val, 0, 0] S1x128x4096.size (inb_slot h)

theorem words_seg : ∀ (h : Fin 16) (s : Fin 4), (rSeg h s).WholeWords (EltTy.packing .bf16) := by decide

/-- A buffer's segment `s` of slot `h`, as the transfers name it. -/
abbrev seg (M : Memref sig .tc .vmem S16x128x4096 .bf16) (h : Fin 16) (s : Fin 4) : Memref sig .tc .vmem S32x4096 .bf16 :=
  (M.slice (rSeg h s) (fun _ => rfl)).squeeze S32x4096 squeezes_S1x32x4096_S32x4096

theorem seg_words (M : Memref sig .tc .vmem S16x128x4096 .bf16) (hM : M.IsWhole) (h : Fin 16) (s : Fin 4) :
    (seg M h s).view.WordExact := (hM.wordExact_slice rfl _ (words_seg h s)).reshape _ _

/-- The semaphore of hop `h`, segment `s` of a family. -/
abbrev cell (A : DmaSems sig S15x4) (h : Fin 15) (s : Fin 4) : DmaSem sig :=
  ((A.slice (Rect.unit (s := S15x4) ![h.val, s.val] S1x1.size (inb_cell h s))).squeeze S_ squeezes_S1x1_S_).sem

/-- The slot hop `h` reads, and the one it writes. -/
abbrev lo (h : Fin 15) : Fin 16 := h.castSucc
abbrev hi (h : Fin 15) : Fin 16 := h.succ

/-! ## The steps -/

/-- The device before and the device after, as the kernel computes them. -/
abbrev lft (d : Dev nD) : Dev nD := ⟨k0_dev1 d, k0_dev1_lt d⟩
abbrev rgt (d : Dev nD) : Dev nD := ⟨k0_dev2 d, k0_dev2_lt d⟩

section Body

variable (arg0 : Memref sig .tc .vmem S256x4096 .bf16) (harg0 : arg0.IsWhole) (arg1 : Memref sig .tc .vmem S4096x512 .bf16) (harg1 : arg1.IsWhole)
  (arg2 : Memref sig .tc .vmem S4096x512 .f32) (harg2 : arg2.IsWhole)
  (arg3 : Memref sig .tc .vmem S16x128x4096 .bf16) (harg3 : arg3.IsWhole) (arg4 : Memref sig .tc .vmem S16x128x4096 .bf16) (harg4 : arg4.IsWhole)
  (arg5 arg6 arg7 arg8 : DmaSems sig S15x4)

/-- The transfer of hop `h`, segment `s`: slot `h` of this device to slot `h + 1` of device `n`. -/
def start (M : Memref sig .tc .vmem S16x128x4096 .bf16) (hM : M.IsWhole) (snd rcv : DmaSems sig S15x4) (n : Dev nD) (h : Fin 15) (s : Fin 4) :
    Prog (Eff F) PUnit :=
  Prog.lift (.enqueueDma (seg M (lo h) s) (.remote (Dev.tc n) (seg M (hi h) s) (.dma (cell snd h s))) (.dma (cell rcv h s))
    (seg_words M hM (lo h) s) (seg_words M hM (hi h) s) ⟨⟨rfl, Or.inl rfl⟩, trivial⟩)

/-- The wait for what hop `h`, segment `s` brings. -/
def recv (M : Memref sig .tc .vmem S16x128x4096 .bf16) (hM : M.IsWhole) (rcv : DmaSems sig S15x4) (h : Fin 15) (s : Fin 4) : Prog (Eff F) PUnit :=
  Prog.lift (.waitDma2 (cell rcv h s) (seg M (lo h) s) (seg M (hi h) s) (seg_words M hM (lo h) s) (seg_words M hM (hi h) s))

/-- The wait for this device's own transfer's read-out. -/
def sent (M : Memref sig .tc .vmem S16x128x4096 .bf16) (hM : M.IsWhole) (snd : DmaSems sig S15x4) (h : Fin 15) (s : Fin 4) : Prog (Eff F) PUnit :=
  Prog.lift (.waitDma2 (cell snd h s) (seg M (hi h) s) (seg M (lo h) s) (seg_words M hM (hi h) s) (seg_words M hM (lo h) s))

/-- The transfer after hop `h`'s, if there is one. -/
def next (M : Memref sig .tc .vmem S16x128x4096 .bf16) (hM : M.IsWhole) (snd rcv : DmaSems sig S15x4) (n : Dev nD) (h : Fin 15) (s : Fin 4) :
    Prog (Eff F) PUnit :=
  if hh : h.val + 1 < 15 then start M hM snd rcv n ⟨h.val + 1, hh⟩ s else pure ⟨⟩

/-- One segment of one hop: both directions received and sent on. -/
def segStep (d : Dev nD) (h : Fin 15) (s : Fin 4) : Prog (Eff F) PUnit := do
  recv arg3 harg3 arg6 h s
  next arg3 harg3 arg5 arg6 (rgt d) h s
  recv arg4 harg4 arg8 h s
  next arg4 harg4 arg7 arg8 (lft d) h s

/-- The product of slot `h + 1` of a buffer with the weights, stored at rows `off` of the result. -/
def dotStep (M : Memref sig .tc .vmem S16x128x4096 .bf16) (h : Fin 15) (off : Fin 2 → ℕ) (hoff : ∀ a, off a + S128x512.size a ≤ S4096x512.size a) :
    Prog (Eff F) PUnit := do
  let x : Vec F S1x128x4096 .bf16 ← Prog.lift (.load M (rSlot (hi h)).toLoadRect (View.loadsAt_vmem h_S1x128x4096))
  let w : Vec F S4096x512 .bf16 ← Prog.lift (.load arg1 (Rect.unit (s := S4096x512) ![0, 0] S4096x512.size inb_S4096x512_S4096x512_0_0).toLoadRect (View.loadsAt_vmem h_S4096x512))
  let _ : Vec F S128x512 .f32 ← Prog.lift (.load arg2 (Rect.unit (s := S4096x512) off S128x512.size hoff).toLoadRect (View.loadsAt_vmem h_S128x512))
  Prog.lift (.store arg2 (Rect.unit (s := S4096x512) off S128x512.size hoff) (k0_pay4 x w) Finset.univ (View.stores_vmem_bits_univ h_S128x512 rfl) (.inl rfl))

/-- One hop. -/
def hop (d : Dev nD) (h : Fin 15) : Prog (Eff F) PUnit := do
  each 4 fun s => segStep arg3 harg3 arg4 harg4 arg5 arg6 arg7 arg8 d h s
  dotStep arg1 arg2 arg3 h (k0_off2 d (BitVec.ofNat 32 h.val)) (k0_off2_inb d h)
  dotStep arg1 arg2 arg4 h (k0_off3 d (BitVec.ofNat 32 h.val)) (k0_off3_inb d h)

/-- The handshake: both neighbours told, both heard from. -/
def handshake (d : Dev nD) : Prog (Eff F) PUnit := do
  semSignalWord (lft d) (SemArray.scalar (sig.barrier 0 rfl) : Sems sig S_).sem 1#32
  semSignalWord (rgt d) (SemArray.scalar (sig.barrier 0 rfl) : Sems sig S_).sem 1#32
  semWaitWord (SemArray.scalar (sig.barrier 0 rfl) : Sems sig S_).sem 2#32

/-- The device's own two halves into slot 0 of the two buffers. -/
def fill : Prog (Eff F) PUnit := do
  let x : Vec F S128x4096 .bf16 ← Prog.lift (.load arg0 (Rect.unit (s := S256x4096) ![0, 0] S128x4096.size inb_S256x4096_S128x4096_0_0).toLoadRect (View.loadsAt_vmem h_S128x4096))
  let _ : Vec F S1x128x4096 .bf16 ← Prog.lift (.load arg3 (rSlot 0).toLoadRect (View.loadsAt_vmem h_S1x128x4096))
  Prog.lift (.store arg3 (rSlot 0) (k0_pay1 x) Finset.univ (View.stores_vmem h_S1x128x4096 (harg3.storeExact_slice rfl _ packedbf16_S16x128x4096_S1x128x4096_0_0_0) (fun _ => rfl)) (.inl rfl))
  let y : Vec F S128x4096 .bf16 ← Prog.lift (.load arg0 (Rect.unit (s := S256x4096) ![128, 0] S128x4096.size inb_S256x4096_S128x4096_128_0).toLoadRect (View.loadsAt_vmem h_S128x4096))
  let _ : Vec F S1x128x4096 .bf16 ← Prog.lift (.load arg4 (rSlot 0).toLoadRect (View.loadsAt_vmem h_S1x128x4096))
  Prog.lift (.store arg4 (rSlot 0) (k0_pay2 y) Finset.univ (View.stores_vmem h_S1x128x4096 (harg4.storeExact_slice rfl _ packedbf16_S16x128x4096_S1x128x4096_0_0_0) (fun _ => rfl)) (.inl rfl))

/-- The own block's product. -/
def ownDot (d : Dev nD) : Prog (Eff F) PUnit := do
  let x : Vec F S256x4096 .bf16 ← Prog.lift (.load arg0 (Rect.unit (s := S256x4096) ![0, 0] S256x4096.size inb_S256x4096_S256x4096_0_0).toLoadRect (View.loadsAt_vmem h_S256x4096))
  let w : Vec F S4096x512 .bf16 ← Prog.lift (.load arg1 (Rect.unit (s := S4096x512) ![0, 0] S4096x512.size inb_S4096x512_S4096x512_0_0).toLoadRect (View.loadsAt_vmem h_S4096x512))
  let _ : Vec F S256x512 .f32 ← Prog.lift (.load arg2 (Rect.unit (s := S4096x512) (k0_off1 d) S256x512.size (k0_off1_inb d)).toLoadRect (View.loadsAt_vmem h_S256x512))
  Prog.lift (.store arg2 (Rect.unit (s := S4096x512) (k0_off1 d) S256x512.size (k0_off1_inb d)) (k0_pay3 x w) Finset.univ (View.stores_vmem_bits_univ h_S256x512 rfl) (.inl rfl))

/-- The body. -/
def body : Prog (Eff F) PUnit := do
  let d : Dev nD ← Prog.lift .deviceId
  handshake d
  fill arg0 arg3 harg3 arg4 harg4
  each 4 fun s => do
    start arg3 harg3 arg5 arg6 (rgt d) 0 s
    start arg4 harg4 arg7 arg8 (lft d) 0 s
  ownDot arg0 arg1 arg2 d
  each 15 fun h => hop arg1 arg2 arg3 harg3 arg4 harg4 arg5 arg6 arg7 arg8 d h
  each 15 fun h => each 4 fun s => do
    sent arg3 harg3 arg5 h s
    sent arg4 harg4 arg7 h s

end Body

end Cert.KernelIdeal.Ring

end
-- ==== Proof.Basic.lean ====
/-
  The ring of sixteen devices, the two gather buffers cut into segments, and the cells of their transfers.
-/
module

public import proofs.«01_k».proof.Proof.Prog
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ring -/

/-- The device the transfers of a direction go to: the next one (`false`, clockwise) or the one before (`true`). -/
def nb (d : Bool) (c : Dev nD) : Dev nD := ⟨(c.val + if d then 15 else 1) % 16, Nat.mod_lt _ (by decide)⟩
/-- The device whose block slot `k` of a direction's buffer holds on device `c`. -/
def far (d : Bool) (k : Fin 16) (c : Dev nD) : Dev nD := ⟨(c.val + if d then k.val else 16 - k.val) % 16, Nat.mod_lt _ (by decide)⟩

theorem nb_nb (d : Bool) (c : Dev nD) : nb d (nb (!d) c) = c := by revert d c; decide
theorem nb_nb' (d : Bool) (c : Dev nD) : nb (!d) (nb d c) = c := by revert d c; decide
theorem far_zero (d : Bool) (c : Dev nD) : far d 0 c = c := by revert d c; decide
/-- What slot `h` holds here is what slot `h + 1` holds one device on. -/
theorem far_nb (d : Bool) (h : Fin 15) (c : Dev nD) : far d (hi h) (nb d c) = far d (lo h) c := by
  have := c.isLt; have := h.isLt
  apply Fin.ext
  cases d <;> simp only [far, nb, lo, hi, Fin.val_succ, Fin.val_castSucc, Bool.false_eq_true, if_false, if_true] <;> omega

/-- The ring as a permutation. -/
def turn (d : Bool) : Dev nD ≃ Dev nD := ⟨nb d, nb (!d), nb_nb' d, nb_nb d⟩

theorem lft_eq (c : Dev nD) : lft c = nb true c := Fin.ext (k0_dev1_eq c)
theorem rgt_eq (c : Dev nD) : rgt c = nb false c := Fin.ext (k0_dev2_eq c)

/-! ## The buffers and the cells -/

/-- A direction's gather buffer. -/
abbrev B : Bool → Memref sig .tc .vmem S16x128x4096 .bf16
  | false => Memref.whole cc0_scratch0
  | true => Memref.whole cc0_scratch1
theorem hB : ∀ d, (B d).IsWhole
  | false => Memref.isWhole_whole _
  | true => Memref.isWhole_whole _

/-- A direction's send cells, and its receive cells. -/
abbrev sndA : Bool → DmaSems sig S15x4
  | false => cc0_scratch2
  | true => cc0_scratch4
abbrev rcvA : Bool → DmaSems sig S15x4
  | false => cc0_scratch3
  | true => cc0_scratch5

/-- A transfer: its direction, its hop, its segment. -/
abbrev Ed : Type := Bool × Fin 15 × Fin 4
/-- A cell of a device: the barrier's, or a transfer's send cell (`false`) or receive cell (`true`). -/
abbrev CI : Type := Option (Bool × Ed)

abbrev barS : Sem sig := (SemArray.scalar (sig.barrier 0 rfl) : Sems sig S_).sem

/-- A transfer's send semaphore and its receive semaphore. -/
abbrev sndS (e : Ed) : DmaSem sig := cell (sndA e.1) e.2.1 e.2.2
abbrev rcvS (e : Ed) : DmaSem sig := cell (rcvA e.1) e.2.1 e.2.2

abbrev csem : CI → SemLoc sig
  | none => .reg barS
  | some (false, e) => .dma (sndS e)
  | some (true, e) => .dma (rcvS e)

abbrev kcell (ck : Dev nD × CI) : GSem nD τ sig := ((ck.1 : Thread nD τ), csem ck.2)
abbrev barCell (c : Dev nD) : GSem nD τ sig := ((c : Thread nD τ), .reg barS)
abbrev sndCell (c : Dev nD) (e : Ed) : GSem nD τ sig := ((c : Thread nD τ), .dma (sndS e))
abbrev rcvCell (c : Dev nD) (e : Ed) : GSem nD τ sig := ((c : Thread nD τ), .dma (rcvS e))

/-- The place of a transfer's semaphores in the pool. -/
def sndN (e : Ed) : ℕ := (if e.1 then 123 else 3) + (4 * e.2.1.val + e.2.2.val)
def rcvN (e : Ed) : ℕ := (if e.1 then 183 else 63) + (4 * e.2.1.val + e.2.2.val)

set_option maxRecDepth 8000 in
theorem sndS_val (e : Ed) : (sndS e).val = sndN e := by revert e; decide
set_option maxRecDepth 8000 in
theorem rcvS_val (e : Ed) : (rcvS e).val = rcvN e := by revert e; decide

theorem Ed.ext' {e e' : Ed} (h1 : e.1 = e'.1) (h2 : e.2.1.val = e'.2.1.val) (h3 : e.2.2.val = e'.2.2.val) : e = e' :=
  Prod.ext h1 (Prod.ext (Fin.ext h2) (Fin.ext h3))

theorem sndN_inj {e e' : Ed} (h : sndN e = sndN e') : e = e' := by
  obtain ⟨d, a, s⟩ := e; obtain ⟨d', a', s'⟩ := e'
  have := a.isLt; have := a'.isLt; have := s.isLt; have := s'.isLt
  cases d <;> cases d' <;> simp only [sndN, Bool.false_eq_true, if_false, if_true] at h <;>
    first | exact Ed.ext' rfl (by dsimp only; omega) (by dsimp only; omega) | omega
theorem rcvN_inj {e e' : Ed} (h : rcvN e = rcvN e') : e = e' := by
  obtain ⟨d, a, s⟩ := e; obtain ⟨d', a', s'⟩ := e'
  have := a.isLt; have := a'.isLt; have := s.isLt; have := s'.isLt
  cases d <;> cases d' <;> simp only [rcvN, Bool.false_eq_true, if_false, if_true] at h <;>
    first | exact Ed.ext' rfl (by dsimp only; omega) (by dsimp only; omega) | omega
theorem sndN_ne_rcvN (e e' : Ed) : sndN e ≠ rcvN e' := by
  obtain ⟨d, a, s⟩ := e; obtain ⟨d', a', s'⟩ := e'
  have := a.isLt; have := a'.isLt; have := s.isLt; have := s'.isLt
  cases d <;> cases d' <;> simp only [sndN, rcvN, Bool.false_eq_true, if_false, if_true] <;> omega

theorem sndS_inj {e e' : Ed} (h : sndS e = sndS e') : e = e' := sndN_inj (by rw [← sndS_val, ← sndS_val, h])
theorem rcvS_inj {e e' : Ed} (h : rcvS e = rcvS e') : e = e' := rcvN_inj (by rw [← rcvS_val, ← rcvS_val, h])
theorem sndS_ne_rcvS (e e' : Ed) : sndS e ≠ rcvS e' := fun h => sndN_ne_rcvN e e' (by rw [← sndS_val, ← rcvS_val, h])

theorem csem_inj : Function.Injective csem := by
  rintro (_ | ⟨_ | _, e⟩) (_ | ⟨_ | _, e'⟩) h
  · rfl
  · cases h
  · cases h
  · cases h
  · rw [sndS_inj (SemLoc.dma.inj h)]
  · exact absurd (SemLoc.dma.inj h) (sndS_ne_rcvS e e')
  · cases h
  · exact absurd (SemLoc.dma.inj h).symm (sndS_ne_rcvS e' e)
  · rw [rcvS_inj (SemLoc.dma.inj h)]

theorem kcell_inj : Function.Injective kcell := by
  rintro ⟨c, k⟩ ⟨c', k'⟩ h
  have h1 : c = c' := congrArg (fun g : GSem nD τ sig => g.1.1) h
  have h2 : k = k' := csem_inj (congrArg Prod.snd h)
  rw [h1, h2]

/-- Which of the ring's cells a cell is, if it is one. -/
def kind (g : GSem nD τ sig) : Option CI :=
  haveI := Classical.dec (∃ k, kcell (g.1.1, k) = g)
  if h : ∃ k, kcell (g.1.1, k) = g then some h.choose else none
theorem kind_kcell (c : Dev nD) (k : CI) : kind (kcell (c, k)) = some k := by
  have h : ∃ k', kcell ((kcell (c, k)).1.1, k') = kcell (c, k) := ⟨k, rfl⟩
  unfold kind
  rw [dif_pos h]
  have := h.choose_spec
  exact congrArg some (congrArg Prod.snd (kcell_inj this))

/-- What a segment's transfer credits. -/
def N (d : Bool) : ℕ := (seg (B d) 0 0).view.dmaCredit
theorem N_pos (d : Bool) : 0 < N d := View.dmaCredit_pos _ (by decide)
theorem N_eq (d : Bool) (k : Fin 16) (s : Fin 4) : (seg (B d) k s).view.dmaCredit = N d := rfl

/-! ## The order of the transfers -/

/-- The place of a transfer in the order a device starts them. -/
def pos (e : Ed) : ℕ := 8 * e.2.1.val + 2 * e.2.2.val + (if e.1 then 1 else 0)
theorem pos_inj {e e' : Ed} (h : pos e = pos e') : e = e' := by
  obtain ⟨d, a, s⟩ := e; obtain ⟨d', a', s'⟩ := e'
  have := a.isLt; have := a'.isLt; have := s.isLt; have := s'.isLt
  cases d <;> cases d' <;> simp only [pos, Bool.false_eq_true, if_false, if_true] at h <;>
    first | exact Ed.ext' rfl (by dsimp only; omega) (by dsimp only; omega) | omega
theorem pos_lt (e : Ed) : pos e < 120 := by
  obtain ⟨d, a, s⟩ := e
  have := a.isLt; have := s.isLt
  cases d <;> simp only [pos, Bool.false_eq_true, if_false, if_true] <;> omega

/-- What device `c` still owes once it has started the first `t` transfers. -/
def rest (c : Dev nD) (t : ℕ) : CellTallies nD τ sig Unit :=
  ∑ e ∈ Finset.univ.filter (fun e : Ed => t ≤ pos e), tallyAt (rcvCell (nb e.1 c) e) () (N e.1)
theorem rest_step (c : Dev nD) (e : Ed) {t : ℕ} (h : pos e = t) :
    rest c t = rest c (t + 1) + tallyAt (rcvCell (nb e.1 c) e) () (N e.1) := by
  unfold rest
  rw [show (Finset.univ.filter fun e : Ed => t ≤ pos e) = insert e (Finset.univ.filter fun e : Ed => t + 1 ≤ pos e) from by
      ext e'
      rw [Finset.mem_insert, Finset.mem_filter, Finset.mem_filter]
      constructor
      · rintro ⟨-, h'⟩
        rcases Nat.eq_or_lt_of_le h' with h' | h'
        · exact .inl (pos_inj (h'.symm.trans h.symm))
        · exact .inr ⟨Finset.mem_univ _, h'⟩
      · rintro (rfl | ⟨-, h'⟩)
        · exact ⟨Finset.mem_univ _, h.symm.le⟩
        · exact ⟨Finset.mem_univ _, by omega⟩,
    Finset.sum_insert (by rw [Finset.mem_filter]; rintro ⟨-, h'⟩; omega), add_comm]
theorem rest_end (c : Dev nD) {t : ℕ} (h : 120 ≤ t) : rest c t = 0 := by
  unfold rest
  rw [Finset.filter_false_of_mem (fun e _ => by have := pos_lt e; omega), Finset.sum_empty]
theorem rest_pos {c : Dev nD} {t : ℕ} {g : GSem nD τ sig} {u : Unit} (h : 0 < rest c t g u) :
    ∃ e : Ed, t ≤ pos e ∧ g = rcvCell (nb e.1 c) e := by
  unfold rest at h
  rw [Finset.sum_apply, Finsupp.finset_sum_apply] at h
  obtain ⟨e, he, hp⟩ := Finset.exists_ne_zero_of_sum_ne_zero (Nat.pos_iff_ne_zero.mp h)
  refine ⟨e, (Finset.mem_filter.mp he).2, ?_⟩
  rw [tallyAt_apply] at hp
  by_contra hn
  exact hp (if_neg fun h' => hn h'.1)

/-- The levels: staging and send cells at 0, barrier cells at 1, a receive cell above 1 at its transfer's place. -/
def lv (g : GSem nD τ sig) (_ : Unit) : ℕ := match kind g with
  | some none => 1
  | some (some (true, e)) => 2 + pos e
  | _ => 0
theorem lv_bar (c : Dev nD) (u : Unit) : lv (barCell c) u = 1 := by unfold lv; rw [kind_kcell c none]
theorem lv_rcv (c : Dev nD) (e : Ed) (u : Unit) : lv (rcvCell c e) u = 2 + pos e := by unfold lv; rw [kind_kcell c (some (true, e))]

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- What device `c` owes at launch: every transfer, a unit to the next device's barrier, a unit to the one before's. -/
def O₁ (c : Dev nD) : CellTallies nD τ sig Unit := rest c 0 + tallyAt (barCell (nb false c)) () 1
def O₀ (c : Dev nD) : CellTallies nD τ sig Unit := O₁ c + tallyAt (barCell (nb true c)) () 1
theorem O₀_pos {c : Dev nD} {g : GSem nD τ sig} {u : Unit} (h : 0 < O₀ c g u) :
    (∃ e : Ed, g = rcvCell (nb e.1 c) e) ∨ ∃ d, g = barCell (nb d c) := by
  unfold O₀ O₁ at h
  rw [Pi.add_apply, Finsupp.add_apply, Pi.add_apply, Finsupp.add_apply, tallyAt_apply, tallyAt_apply] at h
  by_contra hn
  rw [not_or] at hn
  rw [if_neg (fun h' => hn.2 ⟨_, h'.1⟩), if_neg (fun h' => hn.2 ⟨_, h'.1⟩)] at h
  obtain ⟨e, -, he⟩ := rest_pos (by simpa using h)
  exact hn.1 ⟨e, he⟩

end Cert.KernelIdeal.Ring

end
-- ==== Proof.Protocol.lean ====
/-
  What the cells of the ring carry: the barrier cell of a device a unit from each neighbour, with the slots that neighbour
  will be sent into; the receive cell of a transfer the segment landed; its send cell the half share lent to the read-out.
-/
module

public import proofs.«01_k».proof.Proof.Basic

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The contents -/

/-- Rows 0 to 127 of a block, and rows 128 to 255. -/
abbrev rTop : Rect S256x4096 := Rect.unit (s := S256x4096) ![0, 0] S128x4096.size inb_S256x4096_S128x4096_0_0
abbrev rBot : Rect S256x4096 := Rect.unit (s := S256x4096) ![128, 0] S128x4096.size inb_S256x4096_S128x4096_128_0

abbrev xM : Memref sig .tc .vmem S256x4096 .bf16 := Memref.whole cc0_stg0_0
abbrev wM : Memref sig .tc .vmem S4096x512 .bf16 := Memref.whole cc0_stg1_0
abbrev oM : Memref sig .tc .vmem S4096x512 .f32 := Memref.whole cc0_stg2_0

/-- The half of a block that travels in a direction, as a slot holds it. -/
def half (x : Vec F S256x4096 .bf16) : Bool → Vec F S1x128x4096 .bf16
  | false => k0_pay1 (xM.view.readAt (Elt F) rTop.toLoadRect x)
  | true => k0_pay2 (xM.view.readAt (Elt F) rBot.toLoadRect x)

theorem inb_in : ∀ (s : Fin 4) (a : Fin 3), (![0, 32 * s.val, 0] : Fin 3 → Nat) a + S1x32x4096.size a ≤ S1x128x4096.size a := by decide
/-- Segment `s` within a slot. -/
abbrev rIn (s : Fin 4) : Rect S1x128x4096 := Rect.unit (s := S1x128x4096) ![0, 32 * s.val, 0] S1x32x4096.size (inb_in s)
/-- An element of segment `s`, in its slot. -/
def inSlot (s : Fin 4) (j : S32x4096.Idx) : S1x128x4096.Idx := (rIn s).emb (Shape.reshapeEquiv squeezes_S1x32x4096_S32x4096.numel_eq j)

variable (x : Dev nD → Vec F S256x4096 .bf16)

/-- What segment `s` of slot `k` of direction `d`'s buffer holds on device `c` once it holds anything. -/
def X (c : Dev nD) (d : Bool) (k : Fin 16) (s : Fin 4) : S32x4096.Idx → Elt F .bf16 := fun j => half (x (far d k c)) d (inSlot s j)

theorem X_nb (c : Dev nD) (d : Bool) (h : Fin 15) (s : Fin 4) : X x (nb d c) d (hi h) s = X x c d (lo h) s := by
  unfold X; rw [far_nb]

/-- Device `c` holds segment `s` of slot `k` of a direction's buffer, at share `q`, with these contents. -/
abbrev sg (c : Dev nD) (d : Bool) (k : Fin 16) (s : Fin 4) (q : PosShare TreeShare) (V : S32x4096.Idx → Elt F .bf16) : sProp 𝕄 :=
  owns (c : Thread nD τ) (seg (B d) k s) q V

/-! ## The payloads -/

/-- The segment transfer `e` of device `c` writes, on the device it goes to, whatever it holds. -/
def dst (c : Dev nD) (e : Ed) : sProp 𝕄 := iprop(∃ V, sg (nb e.1 c) e.1 (hi e.2.1) e.2.2 fullShare V)

/-- What the unit from `nb d c` hands device `c`: all the segments `c` will write there. -/
def barPay (c : Dev nD) (d : Bool) : sProp 𝕄 := bigSep Finset.univ fun hs : Fin 15 × Fin 4 => dst (F := F) c (d, hs)
/-- What a landing hands the receiver. -/
def rcvPay (c : Dev nD) (e : Ed) : sProp 𝕄 := sg c e.1 (hi e.2.1) e.2.2 fullShare (X x c e.1 (hi e.2.1) e.2.2)
/-- What the end of the read-out hands back to the sender. -/
def sndPay (c : Dev nD) (e : Ed) : sProp 𝕄 := sg c e.1 (lo e.2.1) e.2.2 fullShare.left (X x c e.1 (lo e.2.1) e.2.2)

instance dst_storable (c : Dev nD) (e : Ed) : BI.Storable (upEmb : UEmb _ 𝕄) (dst (F := F) c e) := by unfold dst; infer_instance
instance barPay_storable (c : Dev nD) (d : Bool) : BI.Storable (upEmb : UEmb _ 𝕄) (barPay (F := F) c d) := by unfold barPay; infer_instance
instance rcvPay_storable (c : Dev nD) (e : Ed) : BI.Storable (upEmb : UEmb _ 𝕄) (rcvPay x c e) := by unfold rcvPay; infer_instance
instance sndPay_storable (c : Dev nD) (e : Ed) : BI.Storable (upEmb : UEmb _ 𝕄) (sndPay x c e) := by unfold sndPay; infer_instance

def cDuties : Option CI → Finset Bool
  | none => ∅
  | some none => Finset.univ
  | some (some _) => {false}
def cAmount : Option CI → ℕ
  | none => 1
  | some none => 1
  | some (some (_, e)) => N e.1
def cPay (c : Dev nD) : Option CI → Bool → sProp 𝕄
  | none, _ => iprop(emp)
  | some none, d => barPay c d
  | some (some (false, e)), _ => sndPay x c e
  | some (some (true, e)), _ => rcvPay x c e

/-- One round: a barrier cell the two duties of one unit, a transfer's cell the one duty of the segment's credit. -/
def ringRd : Rounds.Schedule (GSem nD τ sig) Bool 𝕄 where
  duties g r := if r = 0 then cDuties (kind g) else ∅
  unitless _ := False
  amount g _ _ := cAmount (kind g)
  payload g _ d := cPay x g.1.1 (kind g) d
  amount_pos g _ _ _ := by
    rcases kind g with _ | _ | e
    · exact Nat.one_pos
    · exact Nat.one_pos
    · exact N_pos _

instance ringRd_payload_storable (g : GSem nD τ sig) (r : ℕ) (d : Bool) :
    BI.Storable (upEmb : UEmb _ 𝕄) ((ringRd (F := F) x).payload g r d) := by
  show BI.Storable upEmb (cPay x g.1.1 (kind g) d)
  rcases kind g with _ | _ | ⟨_ | _, e⟩ <;> unfold cPay <;> infer_instance

section Sched
variable (c : Dev nD) (e : Ed) (d : Bool)

theorem kind_bar : kind (barCell c) = some none := kind_kcell c none
theorem kind_snd : kind (sndCell c e) = some (some (false, e)) := kind_kcell c (some (false, e))
theorem kind_rcv : kind (rcvCell c e) = some (some (true, e)) := kind_kcell c (some (true, e))

theorem duties_bar : (ringRd (F := F) x).duties (barCell c) 0 = Finset.univ := by dsimp only [ringRd]; rw [if_pos rfl, kind_bar]; rfl
theorem duties_snd : (ringRd (F := F) x).duties (sndCell c e) 0 = {false} := by dsimp only [ringRd]; rw [if_pos rfl, kind_snd]; rfl
theorem duties_rcv : (ringRd (F := F) x).duties (rcvCell c e) 0 = {false} := by dsimp only [ringRd]; rw [if_pos rfl, kind_rcv]; rfl
theorem duties_later (g : GSem nD τ sig) : ∀ r, 1 ≤ r → (ringRd (F := F) x).duties g r = ∅ :=
  fun r hr => by dsimp only [ringRd]; rw [if_neg fun h => by omega]
theorem amount_bar : (ringRd (F := F) x).amount (barCell c) 0 d = 1 := by dsimp only [ringRd]; rw [kind_bar]; rfl
theorem amount_snd : (ringRd (F := F) x).amount (sndCell c e) 0 d = N e.1 := by dsimp only [ringRd]; rw [kind_snd]; rfl
theorem amount_rcv : (ringRd (F := F) x).amount (rcvCell c e) 0 d = N e.1 := by dsimp only [ringRd]; rw [kind_rcv]; rfl
theorem payload_bar : (ringRd (F := F) x).payload (barCell c) 0 d = barPay c d := by dsimp only [ringRd]; rw [kind_bar]; rfl
theorem payload_snd : (ringRd (F := F) x).payload (sndCell c e) 0 d = sndPay x c e := by dsimp only [ringRd]; rw [kind_snd]; rfl
theorem payload_rcv : (ringRd (F := F) x).payload (rcvCell c e) 0 d = rcvPay x c e := by dsimp only [ringRd]; rw [kind_rcv]; rfl

theorem expect_bar : (ringRd (F := F) x).expect (barCell c) 0 = 2 := by
  unfold Schedule.expect Schedule.amountOf
  rw [duties_bar, Finset.sum_congr rfl fun d _ => amount_bar x c d, Finset.sum_const, Finset.card_univ, Fintype.card_bool, smul_eq_mul]
theorem expect_snd : (ringRd (F := F) x).expect (sndCell c e) 0 = N e.1 := by
  unfold Schedule.expect Schedule.amountOf; rw [duties_snd, Finset.sum_singleton, amount_snd]
theorem expect_rcv : (ringRd (F := F) x).expect (rcvCell c e) 0 = N e.1 := by
  unfold Schedule.expect Schedule.amountOf; rw [duties_rcv, Finset.sum_singleton, amount_rcv]

/-- A barrier wait brings every segment the device writes. -/
theorem rest_bar : bigSep ((ringRd (F := F) x).duties (barCell c) 0 \ ∅) (fun d => (ringRd (F := F) x).payload (barCell c) 0 d)
    = bigSep Finset.univ fun e : Ed => dst c e := by
  rw [Finset.sdiff_empty, duties_bar, bigSep_univ_prod]
  exact bigSep_congr fun d _ => payload_bar x c d
theorem rest_snd : bigSep ((ringRd (F := F) x).duties (sndCell c e) 0 \ ∅) (fun d => (ringRd (F := F) x).payload (sndCell c e) 0 d) = sndPay x c e := by
  rw [Finset.sdiff_empty, duties_snd, bigSep_singleton, payload_snd]
theorem rest_rcv : bigSep ((ringRd (F := F) x).duties (rcvCell c e) 0 \ ∅) (fun d => (ringRd (F := F) x).payload (rcvCell c e) 0 d) = rcvPay x c e := by
  rw [Finset.sdiff_empty, duties_rcv, bigSep_singleton, payload_rcv]

end Sched

/-! ## The waits -/

/-- A device may wait on a cell below everything it owes. -/
theorem mayWait_rest (c : Dev nD) (sm : SemLoc sig) (t : ℕ) (h : lv ((c : Thread nD τ), sm) () < 2 + t) :
    (levAts L lv : sProp 𝕄) ⊢ MayWait (c : Thread nD τ) sm () (rest c t) :=
  MayOwe.of_cut (L := L) (lev := lv) (1 + t) (fun p hp => by rw [Finset.mem_singleton.mp hp, L_tc]; exact Finset.mem_singleton_self _)
    (fun g u hg => by obtain ⟨e, -, rfl⟩ := rest_pos hg; rw [L_tc]; exact Finset.mem_singleton_self _)
    (fun p hp => by rw [Finset.mem_singleton.mp hp]; exact Nat.lt_succ_iff.mp (h.trans_eq (by omega)))
    (fun g u hg => by obtain ⟨e, he, rfl⟩ := rest_pos hg; rw [lv_rcv]; omega)

/-- And on a staging cell whatever it owes at launch. -/
theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨e, rfl⟩ | ⟨d, rfl⟩ <;> (rw [L_tc]; exact Finset.mem_singleton_self _))
      (fun p hp => by rw [Finset.mem_singleton.mp hp]; exact hq.le)
      (fun g u hg => by
        rcases O₀_pos hg with ⟨e, rfl⟩ | ⟨d, rfl⟩
        · rw [lv_rcv]; omega
        · rw [lv_bar]; exact Nat.one_pos)
  · rw [MayWait_zero]; iintro -; iempintro

/-! ## The records every device shares -/

variable (K : Dev nD × CI → ℕ)

/-- Every cell's invariant, under the names it was allocated at, and that every cell has reached round 0. -/
def records : sProp 𝕄 :=
  iprop((bigSep Finset.univ fun ck : Dev nD × CI => cellInv ER (ringRd x) (K ck) (kcell ck))
    ∗ bigSep Finset.univ fun ck : Dev nD × CI => reached ER (kcell ck) 0)

instance records_persistent : BI.Persistent (records x K) := by unfold records; infer_instance

theorem inv_at (ck : Dev nD × CI) : records x K ⊢ cellInv ER (ringRd x) (K ck) (kcell ck) := by
  have h : (bigSep Finset.univ fun ck : Dev nD × CI => (cellInv ER (ringRd x) (K ck) (kcell ck) : sProp 𝕄)) ⊢ cellInv ER (ringRd x) (K ck) (kcell ck) :=
    bigSep_elim (Finset.mem_univ ck)
  unfold records; iintro ⟨H, -⟩; iapply h; iexact H
theorem reached_at (ck : Dev nD × CI) : records x K ⊢ reached ER (kcell ck) 0 := by
  have h : (bigSep Finset.univ fun ck : Dev nD × CI => (reached ER (kcell ck) 0 : sProp 𝕄)) ⊢ reached ER (kcell ck) 0 := bigSep_elim (Finset.mem_univ ck)
  unfold records; iintro ⟨-, H⟩; iapply h; iexact H

end Cert.KernelIdeal.Ring

end
-- ==== Proof.Slots.lean ====
/-
  A gather buffer cut into its slots, a slot into its segments: which elements each has, what is read of them, and the
  points-tos split and joined accordingly.
-/
module

public import proofs.«01_k».proof.Proof.Protocol

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Elements -/

theorem mem_rSlot (k : Fin 16) (i : S16x128x4096.Idx) : i ∈ (rSlot k).set ↔ (i 0).val = k.val := by
  rw [LoadRect.mem_set]
  constructor
  · intro h
    obtain ⟨j, hj, he⟩ := h 0
    have hj' : j < 1 := hj
    have he' : (i 0).val = k.val + 1 * j := he
    omega
  · intro h a
    match a with
    | 0 => exact ⟨0, Nat.one_pos, h.trans (by show k.val = k.val + 1 * 0; omega)⟩
    | 1 => exact ⟨(i 1).val, (i 1).isLt, by show (i 1).val = 0 + 1 * (i 1).val; omega⟩
    | 2 => exact ⟨(i 2).val, (i 2).isLt, by show (i 2).val = 0 + 1 * (i 2).val; omega⟩

theorem mem_rSeg (k : Fin 16) (s : Fin 4) (i : S16x128x4096.Idx) : i ∈ (rSeg k s).set ↔ (i 0).val = k.val ∧ (i 1).val / 32 = s.val := by
  rw [LoadRect.mem_set]
  constructor
  · intro h
    obtain ⟨j, hj, he⟩ := h 0
    obtain ⟨j', hj', he'⟩ := h 1
    have h1 : j < 1 := hj
    have h2 : (i 0).val = k.val + 1 * j := he
    have h3 : j' < 32 := hj'
    have h4 : (i 1).val = 32 * s.val + 1 * j' := he'
    omega
  · rintro ⟨h, h'⟩ a
    match a with
    | 0 => exact ⟨0, Nat.one_pos, h.trans (by show k.val = k.val + 1 * 0; omega)⟩
    | 1 => exact ⟨(i 1).val % 32, Nat.mod_lt _ (by decide), by show (i 1).val = 32 * s.val + 1 * ((i 1).val % 32); omega⟩
    | 2 => exact ⟨(i 2).val, (i 2).isLt, by show (i 2).val = 0 + 1 * (i 2).val; omega⟩

theorem slot_eq (k : Fin 16) : (rSlot k).set = Finset.univ.biUnion fun s => (rSeg k s).set := by
  ext i
  simp only [Finset.mem_biUnion, Finset.mem_univ, true_and, mem_rSlot, mem_rSeg]
  have h1 : (i 1).val < 128 := (i 1).isLt
  exact ⟨fun h => ⟨⟨(i 1).val / 32, by omega⟩, h, rfl⟩, fun ⟨_, h, _⟩ => h⟩
theorem all_eq : (Finset.univ : Finset S16x128x4096.Idx) = Finset.univ.biUnion fun k => (rSlot k).set := by
  ext i
  simp only [Finset.mem_biUnion, Finset.mem_univ, true_and, mem_rSlot, true_iff]
  exact ⟨i 0, rfl⟩
theorem all_eq' : (Finset.univ : Finset S16x128x4096.Idx) = Finset.univ.biUnion fun ks : Fin 16 × Fin 4 => (rSeg ks.1 ks.2).set := by
  ext i
  simp only [Finset.mem_biUnion, Finset.mem_univ, true_and, mem_rSeg, true_iff]
  have h1 : (i 1).val < 128 := (i 1).isLt
  exact ⟨(i 0, ⟨(i 1).val / 32, by omega⟩), rfl, rfl⟩

/-! ## Finite families -/

theorem bigSep_fin_succ {n : ℕ} (Φ : Fin (n + 1) → sProp 𝕄) : bigSep Finset.univ Φ = iprop(Φ 0 ∗ bigSep Finset.univ fun i : Fin n => Φ i.succ) := by
  rw [Fin.univ_succ, Finset.cons_eq_insert, bigSep_insert (by simp [Fin.succ_ne_zero]), bigSep_map]; rfl
theorem bigSep_fin_last {n : ℕ} (Φ : Fin (n + 1) → sProp 𝕄) :
    bigSep Finset.univ Φ = iprop((bigSep Finset.univ fun i : Fin n => Φ i.castSucc) ∗ Φ (Fin.last n)) := by
  rw [Fin.univ_castSuccEmb, Finset.cons_eq_insert, bigSep_insert (by simp [Fin.castSucc_ne_last]), bigSep_map]
  exact equiv_iff.mp ⟨BI.sep_comm, BI.sep_comm⟩
theorem bigSep_bool (Φ : Bool → sProp 𝕄) : bigSep Finset.univ Φ = iprop(Φ false ∗ Φ true) :=
  bigSep_univ_eq_bigSepL [false, true] (by decide) (by decide) Φ
/-- A family all but its first, and something for the last place, place by place. -/
theorem bigSep_next {n : ℕ} (R : Fin (n + 1) → sProp 𝕄) (Z : sProp 𝕄) :
    bigSep Finset.univ (fun h : Fin (n + 1) => if hh : h.val + 1 < n + 1 then R ⟨h.val + 1, hh⟩ else Z)
      = iprop((bigSep Finset.univ fun i : Fin n => R i.succ) ∗ Z) := by
  rw [bigSep_fin_last]
  congr 1
  · exact bigSep_congr fun i _ => by rw [dif_pos (by rw [Fin.val_castSucc]; omega)]; rfl
  · rw [dif_neg (by rw [Fin.val_last]; omega)]

section
variable (M : Memref sig .tc .vmem S16x128x4096 .bf16)

theorem seg_set (k : Fin 16) (s : Fin 4) : (seg M k s).view.set = (rSeg k s).set.map M.view.emb := by
  show ((M.view.slice (rSeg k s)).reshape _ _).set = _
  rw [View.set_reshape, View.set_slice]
theorem slot_set (k : Fin 16) : (M.access (rSlot k)).set = (rSlot k).set.map M.view.emb := View.set_slice _ _

theorem map_biUnion' {T A C : Type} [DecidableEq A] [DecidableEq C] (f : A ↪ C) (S : Finset T) (g : T → Finset A) :
    (S.biUnion g).map f = S.biUnion fun t => (g t).map f := by
  ext i
  simp only [Finset.mem_map, Finset.mem_biUnion]
  constructor
  · rintro ⟨a, ⟨t, ht, ha⟩, rfl⟩; exact ⟨t, ht, a, ha, rfl⟩
  · rintro ⟨t, ht, a, ha, rfl⟩; exact ⟨a, ⟨t, ht, ha⟩, rfl⟩

theorem slot_set_eq (k : Fin 16) : (M.access (rSlot k)).set = Finset.univ.biUnion fun s => (seg M k s).view.set := by
  rw [slot_set, slot_eq, map_biUnion']
  exact Finset.biUnion_congr rfl fun s _ => (seg_set M k s).symm
theorem buf_set_eq : M.view.set = Finset.univ.biUnion fun k => (M.access (rSlot k)).set := by
  rw [← View.setOn_univ, View.setOn, all_eq, map_biUnion']
  exact Finset.biUnion_congr rfl fun s _ => (slot_set M s).symm
theorem buf_set_eq' : M.view.set = Finset.univ.biUnion fun ks : Fin 16 × Fin 4 => (seg M ks.1 ks.2).view.set := by
  rw [← View.setOn_univ, View.setOn, all_eq', map_biUnion']
  exact Finset.biUnion_congr rfl fun s _ => (seg_set M s.1 s.2).symm

theorem seg_disj {k k' : Fin 16} {s s' : Fin 4} (h : (k, s) ≠ (k', s')) : Disjoint (seg M k s).view.set (seg M k' s').view.set := by
  rw [seg_set, seg_set, Finset.disjoint_map, Finset.disjoint_left]
  intro i hi hi'
  rw [mem_rSeg] at hi hi'
  exact h (Prod.ext (Fin.ext (hi.1.symm.trans hi'.1)) (Fin.ext (hi.2.symm.trans hi'.2)))
theorem slot_disj {k k' : Fin 16} (h : k ≠ k') : Disjoint (M.access (rSlot k)).set (M.access (rSlot k')).set := by
  rw [slot_set, slot_set, Finset.disjoint_map, Finset.disjoint_left]
  intro i hi hi'
  rw [mem_rSlot] at hi hi'
  exact h (Fin.ext (hi.symm.trans hi'))

/-! ## Contents -/

theorem emb_inSlot (k : Fin 16) (s : Fin 4) (j : S32x4096.Idx) :
    (rSeg k s).emb (Shape.reshapeEquiv squeezes_S1x32x4096_S32x4096.numel_eq j) = (rSlot k).emb (inSlot s j) := by
  funext a
  apply Fin.ext
  generalize hy : Shape.reshapeEquiv squeezes_S1x32x4096_S32x4096.numel_eq j = y
  unfold inSlot
  rw [hy]
  rw [Rect.emb_apply, Rect.emb_apply, Rect.emb_apply]
  match a with
  | 0 => show k.val + 1 * (y 0).val = k.val + 1 * (0 + 1 * (y 0).val); omega
  | 1 => show 32 * s.val + 1 * (y 1).val = 0 + 1 * (32 * s.val + 1 * (y 1).val); omega
  | 2 => show 0 + 1 * (y 2).val = 0 + 1 * (0 + 1 * (y 2).val); omega

theorem inSlot_surj (i : S1x128x4096.Idx) : ∃ s j, inSlot s j = i := by
  have h0 : (i 0).val < 1 := (i 0).isLt
  have h1 : (i 1).val < 128 := (i 1).isLt
  have hm : i ∈ (rIn ⟨(i 1).val / 32, by omega⟩).set := by
    rw [LoadRect.mem_set]
    intro a
    match a with
    | 0 => exact ⟨0, Nat.one_pos, by show (i 0).val = 0 + 1 * 0; omega⟩
    | 1 => exact ⟨(i 1).val % 32, Nat.mod_lt _ (by decide), by show (i 1).val = 32 * ((i 1).val / 32) + 1 * ((i 1).val % 32); omega⟩
    | 2 => exact ⟨(i 2).val, (i 2).isLt, by show (i 2).val = 0 + 1 * (i 2).val; omega⟩
  obtain ⟨y, hy⟩ := LoadRect.exists_idx_of_mem _ hm
  exact ⟨_, (Shape.reshapeEquiv squeezes_S1x32x4096_S32x4096.numel_eq).symm y, by unfold inSlot; rw [Equiv.apply_symm_apply]; exact hy⟩

theorem read_seg (k : Fin 16) (s : Fin 4) (g : M.view.ty.Contents (Elt F)) (j : S32x4096.Idx) :
    (seg M k s).view.read (Elt F) g j = M.view.readAt (Elt F) (rSlot k).toLoadRect g (inSlot s j) := by
  show M.view.read (Elt F) g ((rSeg k s).emb (Shape.reshapeEquiv squeezes_S1x32x4096_S32x4096.numel_eq j)) = M.view.read (Elt F) g ((rSlot k).emb (inSlot s j))
  rw [emb_inSlot]

/-! ## Points-tos -/

variable (c : Dev nD)

theorem slot_split (k : Fin 16) (q : PosShare TreeShare) (g : Buf (Elt F) (M.view.loc (c : Thread nD τ))) :
    (M.view.loc (c : Thread nD τ) ↦[(M.access (rSlot k)).set]{q} g : sProp 𝕄)
      ⊢ bigSep Finset.univ fun s : Fin 4 => owns (c : Thread nD τ) (seg M k s) q (fun j => M.view.readAt (Elt F) (rSlot k).toLoadRect g (inSlot s j)) := by
  rw [slot_set_eq, pointsTo_biUnion _ _ fun s _ s' _ h => seg_disj M (fun h' => h (congrArg Prod.snd h'))]
  refine bigSep_mono fun s _ => ?_
  unfold owns
  show (M.view.loc (c : Thread nD τ) ↦[(seg M k s).view.set]{q} g : sProp 𝕄) ⊢ _
  iintro H
  iexists g
  isplitr
  · ipureintro; funext j; exact read_seg M k s g j
  · iexact H

theorem slot_join (k : Fin 16) (q : PosShare TreeShare) (V : Vec F S1x128x4096 .bf16) :
    (bigSep Finset.univ fun s : Fin 4 => owns (c : Thread nD τ) (seg M k s) q (fun j => V (inSlot s j)) : sProp 𝕄)
      ⊢ iprop(∃ g : Buf (Elt F) (M.view.loc (c : Thread nD τ)), ⌜M.view.readAt (Elt F) (rSlot k).toLoadRect g = V⌝
          ∗ (M.view.loc (c : Thread nD τ) ↦[(M.access (rSlot k)).set]{q} g)) := by
  unfold owns
  iintro H
  ihave H1 := (BI.bigSep_exists_pi Finset.univ (fun (s : Fin 4) (f : Buf (Elt F) (M.view.loc (c : Thread nD τ))) =>
    iprop(⌜(seg M k s).view.read (Elt F) f = fun j => V (inSlot s j)⌝ ∗ (M.view.loc (c : Thread nD τ) ↦[(seg M k s).view.set]{q} f) : sProp 𝕄))) $$ H
  icases H1 with ⟨%fs, H1⟩
  ihave H2 := (bigSep_pure_sep Finset.univ (fun s : Fin 4 => (seg M k s).view.read (Elt F) (fs s) = fun j => V (inSlot s j))
    (fun s => (M.view.loc (c : Thread nD τ) ↦[(seg M k s).view.set]{q} fs s : sProp 𝕄))) $$ H1
  icases H2 with ⟨%hV, H2⟩
  ihave H3 := (pointsTo_biUnion_join Finset.univ (fun s : Fin 4 => (seg M k s).view.set) fs (fs 0)
    fun s _ s' _ h => seg_disj M (fun h' => h (congrArg Prod.snd h'))) $$ H2
  icases H3 with ⟨%g, %hg, H3⟩
  iexists g
  isplitr
  · ipureintro
    funext i
    obtain ⟨s, j, rfl⟩ := inSlot_surj i
    rw [← read_seg, ← congrFun (hV s (Finset.mem_univ _)) j, View.read_apply, View.read_apply,
      hg s (Finset.mem_univ _) _ (View.emb_mem_set _ _)]
  · rw [slot_set_eq]; iexact H3

/-- A whole buffer, its first slot apart. -/
theorem buf_split (f : Buf (Elt F) (M.view.loc (c : Thread nD τ))) :
    (M.view.loc (c : Thread nD τ) ↦[M.view.set]{fullShare} f : sProp 𝕄)
      ⊢ iprop((M.view.loc (c : Thread nD τ) ↦[(M.access (rSlot 0)).set]{fullShare} f)
          ∗ bigSep Finset.univ fun hs : Fin 15 × Fin 4 => iprop(∃ V, owns (c : Thread nD τ) (seg M (hi hs.1) hs.2) fullShare V)) := by
  rw [buf_set_eq, pointsTo_biUnion _ _ fun k _ k' _ h => slot_disj M h, bigSep_fin_succ, bigSep_univ_prod]
  refine sep_mono_right (bigSep_mono fun h _ => (slot_split M c (hi h) fullShare f).trans (bigSep_mono fun s _ => ?_))
  show (owns (c : Thread nD τ) (seg M (hi h) s) fullShare _ : sProp 𝕄) ⊢ _
  iintro H
  iexists _; iexact H

/-- The segments of a buffer make the buffer. -/
theorem buf_join :
    (bigSep Finset.univ fun ks : Fin 16 × Fin 4 => iprop(∃ V, owns (c : Thread nD τ) (seg M ks.1 ks.2) fullShare V) : sProp 𝕄)
      ⊢ iprop(∃ g : Buf (Elt F) (M.view.loc (c : Thread nD τ)), (M.view.loc (c : Thread nD τ) ↦[M.view.set]{fullShare} g)) := by
  have h : (bigSep Finset.univ fun ks : Fin 16 × Fin 4 => iprop(∃ V, owns (c : Thread nD τ) (seg M ks.1 ks.2) fullShare V) : sProp 𝕄)
      ⊢ bigSep Finset.univ fun ks : Fin 16 × Fin 4 => iprop(∃ f : Buf (Elt F) (M.view.loc (c : Thread nD τ)), M.view.loc (c : Thread nD τ) ↦[(seg M ks.1 ks.2).view.set]{fullShare} f) := by
    refine bigSep_mono fun ks _ => ?_
    unfold owns
    show (iprop(∃ V, ∃ f, ⌜(seg M ks.1 ks.2).view.read (Elt F) f = V⌝ ∗ (M.view.loc (c : Thread nD τ) ↦[(seg M ks.1 ks.2).view.set]{fullShare} f)) : sProp 𝕄) ⊢ _
    iintro ⟨%V, %f, -, H⟩
    iexists f; iexact H
  refine h.trans ?_
  iintro H
  ihave H1 := (BI.bigSep_exists_pi Finset.univ (fun (ks : Fin 16 × Fin 4) (f : Buf (Elt F) (M.view.loc (c : Thread nD τ))) =>
    (M.view.loc (c : Thread nD τ) ↦[(seg M ks.1 ks.2).view.set]{fullShare} f : sProp 𝕄))) $$ H
  icases H1 with ⟨%fs, H1⟩
  ihave H3 := (pointsTo_biUnion_join Finset.univ (fun ks : Fin 16 × Fin 4 => (seg M ks.1 ks.2).view.set) fs (fs (0, 0))
    fun s _ s' _ h => seg_disj M h) $$ H1
  icases H3 with ⟨%g, -, H3⟩
  iexists g
  rw [buf_set_eq']; iexact H3

end

end Cert.KernelIdeal.Ring

end
-- ==== Proof.Steps.lean ====
/-
  The three steps of a transfer at any place of the ring: started, received, and its read-out waited for.
-/
module

public import proofs.«01_k».proof.Proof.Slots

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Programs in sequence -/

/-- A program's fact, used with what follows. -/
theorem run (c : Dev nD) {p : Prog (Eff F) PUnit} {A A' : sProp 𝕄} (h : A ⊢ wp frame (wpE (defs₀ (F := F)) 𝒱₀ (c : Thread nD τ) none) Set.univ p (fun _ => A'))
    (Q : PUnit → sProp 𝕄) : A ⊢ iprop((A' -∗ Q ⟨⟩) -∗ wp frame (wpE (defs₀ (F := F)) 𝒱₀ (c : Thread nD τ) none) Set.univ p Q) := by
  iintro H Hk
  ihave H1 := h $$ H
  iapply (wp_wand frame (wpE (defs₀ (F := F)) 𝒱₀ (c : Thread nD τ) none) (Q := fun _ => A')) $$ H1
  iintro %a H
  cases a
  iapply Hk; iexact H

/-- A loop's fact, from its body's. -/
theorem wp_each (c : Dev nD) (n : ℕ) : ∀ (J : ℕ → sProp 𝕄) (A A' : Fin n → sProp 𝕄) (f : Fin n → Prog (Eff F) PUnit)
    (h : ∀ i : Fin n, iprop(J i.val ∗ A i) ⊢ wp frame (wpE (defs₀ (F := F)) 𝒱₀ (c : Thread nD τ) none) Set.univ (f i) (fun _ => iprop(J (i.val + 1) ∗ A' i))),
    iprop(J 0 ∗ bigSep Finset.univ A) ⊢ wp frame (wpE (defs₀ (F := F)) 𝒱₀ (c : Thread nD τ) none) Set.univ (each n f) (fun _ => iprop(J n ∗ bigSep Finset.univ A')) := by
  induction n with
  | zero =>
    intro J A A' f h
    rw [Finset.univ_eq_empty, bigSep_empty, bigSep_empty]
    unfold each
    rw [Prog.pure_eq_ret, wp_ret]
    iintro H; imodintro; iexact H
  | succ n ih =>
    intro J A A' f h
    rw [bigSep_fin_succ, bigSep_fin_succ]
    unfold each
    rw [wp_bind]
    iintro ⟨HJ, HA, HR⟩
    have h0 : (iprop(J 0 ∗ A 0) : sProp 𝕄) ⊢ wp frame (wpE (defs₀ (F := F)) 𝒱₀ (c : Thread nD τ) none) Set.univ (f 0) (fun _ => iprop(J (0 + 1) ∗ A' 0)) := h 0
    iapply (run c h0) $$ [HJ HA]
    · isplitl [HJ]; · iexact HJ
      iexact HA
    iintro ⟨HJ, HA⟩
    iapply (run c (ih (fun i => J (i + 1)) (fun i => A i.succ) (fun i => A' i.succ) (fun i => f i.succ) fun i => h i.succ)) $$ [HJ HR]
    · isplitl [HJ]; · iexact HJ
      iexact HR
    iintro ⟨HJ, HR⟩
    isplitl [HJ]; · iexact HJ
    isplitl [HA]; · iexact HA
    iexact HR

/-! ## A transfer -/

variable (x : Dev nD → Vec F S256x4096 .bf16) (K : Dev nD × CI → ℕ)

/-- Device `c` owes the transfers from the `t`-th on. -/
def ow (c : Dev nD) (t : ℕ) : sProp 𝕄 := iprop(∃ W, owes (c : Thread nD τ) (rest c t) W)

/-- What starting a transfer takes beside its source: the place it writes and the two duties it pays. -/
def out (c : Dev nD) (e : Ed) : sProp 𝕄 :=
  iprop(dst (F := F) c e ∗ dutyTok ER (sndCell c e) 0 false ∗ dutyTok ER (rcvCell (nb e.1 c) e) 0 false)
/-- What receiving one takes. -/
def inn (c : Dev nD) (e : Ed) : sProp 𝕄 := iprop(atPos ER (rcvCell c e) 0 ∅ 0 ∗ cred (tallyAt (rcvCell c e) () (N e.1)))
/-- The credit of a transfer started. -/
def flown (c : Dev nD) (e : Ed) : sProp 𝕄 := cred (tallyAt (sndCell c e) () (N e.1))

/-- The half share lent to the read-out is what its end hands back. -/
theorem pay_snd (c : Dev nD) (e : Ed) (f : Buf (Elt F) ((seg (B e.1) (lo e.2.1) e.2.2).view.loc (c : Thread nD τ)))
    (hf : (seg (B e.1) (lo e.2.1) e.2.2).view.read (Elt F) f = X x c e.1 (lo e.2.1) e.2.2) :
    ((seg (B e.1) (lo e.2.1) e.2.2).view.loc (c : Thread nD τ) ↦[(seg (B e.1) (lo e.2.1) e.2.2).view.set]{fullShare.left} f : sProp 𝕄)
      ⊢ (ringRd x).payload (sndCell c e) 0 false := by
  rw [payload_snd]; unfold sndPay sg owns
  iintro H; iexists f
  isplitr; · ipureintro; exact hf
  iexact H

/-- The segment written is what the landing hands on. -/
theorem pay_rcv (c : Dev nD) (e : Ed) (f : Buf (Elt F) ((seg (B e.1) (lo e.2.1) e.2.2).view.loc (c : Thread nD τ)))
    (hf : (seg (B e.1) (lo e.2.1) e.2.2).view.read (Elt F) f = X x c e.1 (lo e.2.1) e.2.2)
    (g : Buf (Elt F) ((seg (B e.1) (hi e.2.1) e.2.2).view.loc (nb e.1 c : Thread nD τ))) :
    ((seg (B e.1) (hi e.2.1) e.2.2).view.loc (nb e.1 c : Thread nD τ) ↦[(seg (B e.1) (hi e.2.1) e.2.2).view.set]{fullShare}
        ((seg (B e.1) (hi e.2.1) e.2.2).view.write (Elt F) g ((seg (B e.1) (lo e.2.1) e.2.2).view.read (Elt F) f) Finset.univ) : sProp 𝕄)
      ⊢ (ringRd x).payload (rcvCell (nb e.1 c) e) 0 false := by
  rw [payload_rcv]; unfold rcvPay sg owns
  iintro H; iexists ((seg (B e.1) (hi e.2.1) e.2.2).view.write (Elt F) g ((seg (B e.1) (lo e.2.1) e.2.2).view.read (Elt F) f) Finset.univ)
  isplitr
  · ipureintro; rw [View.read_write_univ, hf, X_nb]
  iexact H

theorem send_amount (e : Ed) : (seg (B e.1) (hi e.2.1) e.2.2).view.amount (.dma (cell (rcvA e.1) e.2.1 e.2.2) : SemLoc sig) = N e.1 := rfl

theorem wp_start (c n : Dev nD) (e : Ed) (hn : n = nb e.1 c) :
    iprop(records x K ∗ ow c (pos e) ∗ sg c e.1 (lo e.2.1) e.2.2 fullShare (X x c e.1 (lo e.2.1) e.2.2) ∗ out c e)
      ⊢ wp frame (wpE (defs₀ (F := F)) 𝒱₀ (c : Thread nD τ) none) Set.univ (start (B e.1) (hB e.1) (sndA e.1) (rcvA e.1) n e.2.1 e.2.2)
          (fun _ => iprop(ow c (pos e + 1) ∗ flown c e ∗ sg c e.1 (lo e.2.1) e.2.2 fullShare.right (X x c e.1 (lo e.2.1) e.2.2))) := by
  subst hn
  unfold start out dst ow flown sg owns
  simp only [Prog.lift]
  iintro ⟨#HK, ⟨%W, HO⟩, ⟨%f, %hf, Hs⟩, ⟨%V, %g, -, Hd⟩, HtS, HtR⟩
  ihave Hs2 := (pointsTo_share (PosShare.mem_left_op_right fullShare)).1 $$ Hs
  icases Hs2 with ⟨HsL, HsR⟩
  have hr : τ.routes (c : Thread nD τ) (nb e.1 c : Thread nD τ) = true := by routes
  iapply (Rounds.wp_send_pointsTo 𝒱₀ ER (ringRd x) (c : Thread nD τ) none (κ₁ := K (c, some (false, e))) (κ₂ := K (nb e.1 c, some (true, e)))
    (r₁ := 0) (r₂ := 0) (d₁ := false) (d₂ := false) (fd := g)
    (by rw [duties_snd]; exact Finset.mem_singleton_self _) (by rw [duties_rcv]; exact Finset.mem_singleton_self _)
    () () (N e.1) (send_amount e) (amount_snd x c e false) (amount_rcv x (nb e.1 c) e false) (rest c (pos e + 1)) (rest_step c e rfl) (W := W)
    (pay_snd x c e f hf) (pay_rcv x c e f hf g) hr) $$ [HsL Hd HO HtS HtR]
  · isplitr; · iapply (inv_at x K (c, some (false, e))); iexact HK
    isplitr; · iapply (inv_at x K (nb e.1 c, some (true, e))); iexact HK
    isplitl [HsL]; · iexact HsL
    isplitl [Hd]; · iexact Hd
    isplitl [HO]; · iexact HO
    isplitl [HtS]; · iexact HtS
    isplitr; · iapply (reached_at x K (c, some (false, e))); iexact HK
    isplitl [HtR]; · iexact HtR
    iapply (reached_at x K (nb e.1 c, some (true, e))); iexact HK
  iintro ⟨HcS, HO⟩
  rw [wp_ret]; imodintro
  isplitl [HO]; · iexists W; iexact HO
  isplitl [HcS]; · iexact HcS
  iexists f
  isplitr; · ipureintro; exact hf
  iexact HsR

theorem wp_recv (c : Dev nD) (e : Ed) (t : ℕ) (ht : pos e < t) :
    iprop(records x K ∗ levAts L lv ∗ ow c t ∗ inn c e)
      ⊢ wp frame (wpE (defs₀ (F := F)) 𝒱₀ (c : Thread nD τ) none) Set.univ (recv (B e.1) (hB e.1) (rcvA e.1) e.2.1 e.2.2)
          (fun _ => iprop(ow c t ∗ semVal (rcvCell c e) 0 ∗ sg c e.1 (hi e.2.1) e.2.2 fullShare (X x c e.1 (hi e.2.1) e.2.2))) := by
  unfold recv inn ow
  simp only [Prog.lift]
  iintro ⟨#HK, #Hlev, ⟨%W, HO⟩, Hat, Hc⟩
  iapply (Rounds.wp_wait_rest_token 𝒱₀ ER (ringRd x) (c : Thread nD τ) none (κ := K (c, some (true, e)))
      (wpE_waitDma2_eq 𝒱₀ (c : Thread nD τ) none Set.univ) (Set.mem_univ _) () (O := rest c t) (W := W) (R := 0) (m := 0) (T := ∅)
      (by rw [Nat.zero_add, expect_rcv]; rfl)) $$ [Hc HO Hat]
  · isplitr; · iapply (inv_at x K (c, some (true, e))); iexact HK
    isplitl [Hc]; · iexact Hc
    isplitl [HO]; · iexact HO
    isplitr; · iapply (mayWait_rest c _ t (by rw [lv_rcv]; omega)); iexact Hlev
    iexact Hat
  iintro ⟨HO, Hat, -, Hpay⟩
  ihave Hp := (Entails.of_eq (rest_rcv x c e)) $$ Hpay
  imod (Rounds.cell_close ER (ringRd x) (Set.mem_univ (K (c, some (true, e)))) (fun h => h) (R := 0 + 1) (duties_later x (rcvCell c e))) $$ [Hat] with Hz
  · isplitr; · iapply (inv_at x K (c, some (true, e))); iexact HK
    iexact Hat
  rw [wp_ret]; imodintro
  isplitl [HO]; · iexists _; iexact HO
  isplitl [Hz]; · iexact Hz
  unfold rcvPay; iexact Hp

theorem wp_sent (c : Dev nD) (e : Ed) (t : ℕ) :
    iprop(records x K ∗ levAts L lv ∗ ow c t ∗ flown c e ∗ atPos ER (sndCell c e) 0 ∅ 0)
      ⊢ wp frame (wpE (defs₀ (F := F)) 𝒱₀ (c : Thread nD τ) none) Set.univ (sent (B e.1) (hB e.1) (sndA e.1) e.2.1 e.2.2)
          (fun _ => iprop(ow c t ∗ semVal (sndCell c e) 0 ∗ sg c e.1 (lo e.2.1) e.2.2 fullShare.left (X x c e.1 (lo e.2.1) e.2.2))) := by
  unfold sent flown ow
  simp only [Prog.lift]
  iintro ⟨#HK, #Hlev, ⟨%W, HO⟩, Hc, Hat⟩
  iapply (Rounds.wp_wait_rest_token 𝒱₀ ER (ringRd x) (c : Thread nD τ) none (κ := K (c, some (false, e)))
      (wpE_waitDma2_eq 𝒱₀ (c : Thread nD τ) none Set.univ) (Set.mem_univ _) () (O := rest c t) (W := W) (R := 0) (m := 0) (T := ∅)
      (by rw [Nat.zero_add, expect_snd]; rfl)) $$ [Hc HO Hat]
  · isplitr; · iapply (inv_at x K (c, some (false, e))); iexact HK
    isplitl [Hc]; · iexact Hc
    isplitl [HO]; · iexact HO
    isplitr
    · iapply (mayWait_rest c _ t (by
        have h : lv (sndCell c e) () = 0 := by unfold lv; rw [kind_snd]
        rw [h]; omega))
      iexact Hlev
    iexact Hat
  iintro ⟨HO, Hat, -, Hpay⟩
  ihave Hp := (Entails.of_eq (rest_snd x c e)) $$ Hpay
  imod (Rounds.cell_close ER (ringRd x) (Set.mem_univ (K (c, some (false, e)))) (fun h => h) (R := 0 + 1) (duties_later x (sndCell c e))) $$ [Hat] with Hz
  · isplitr; · iapply (inv_at x K (c, some (false, e))); iexact HK
    iexact Hat
  rw [wp_ret]; imodintro
  isplitl [HO]; · iexists _; iexact HO
  isplitl [Hz]; · iexact Hz
  unfold sndPay; iexact Hp

end Cert.KernelIdeal.Ring

end
-- ==== Proof.Out.lean ====
/-
  What a device's result block holds, row by row, and which rows the first hops have written.
-/
module

public import proofs.«01_k».proof.Proof.Protocol

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI

variable {F : FTy → Type} [FloatOps F]

/-! ## The rows stored -/

/-- The rows of the own block. -/
abbrev rOwn (c : Dev nD) : Rect S4096x512 := Rect.unit (s := S4096x512) (k0_off1 c) S256x512.size (k0_off1_inb c)

/-- Where a hop's product goes. -/
def offOf (c : Dev nD) (h : Fin 15) : Bool → Fin 2 → ℕ
  | false => k0_off2 c (BitVec.ofNat 32 h.val)
  | true => k0_off3 c (BitVec.ofNat 32 h.val)
theorem offOf_inb (c : Dev nD) (h : Fin 15) : ∀ (d : Bool) (a : Fin 2), offOf c h d a + S128x512.size a ≤ S4096x512.size a
  | false => k0_off2_inb c h
  | true => k0_off3_inb c h
theorem offOf_eq (c : Dev nD) (h : Fin 15) (d : Bool) : offOf c h d = ![256 * (far d (hi h) c).val + (if d then 128 else 0), 0] := by
  cases d
  · refine (k0_off2_eq c h).trans ?_
    simp only [far, hi, Fin.val_succ, Bool.false_eq_true, if_false, Nat.add_zero]
    rw [show c.val + 15 - h.val = c.val + (16 - (h.val + 1)) from by have := h.isLt; omega]
  · refine (k0_off3_eq c h).trans ?_
    simp only [far, hi, Fin.val_succ, if_true]
    rw [show c.val + h.val + 1 = c.val + (h.val + 1) from by omega]
/-- The rows of a hop's half block. -/
abbrev rHop (c : Dev nD) (h : Fin 15) (d : Bool) : Rect S4096x512 := Rect.unit (s := S4096x512) (offOf c h d) S128x512.size (offOf_inb c h d)

/-! ## The contents -/

/-- The device whose block a row belongs to, and which half of it. -/
def row (i : S4096x512.Idx) : Dev nD := ⟨(i 0).val / 256, by have : (i 0).val < 4096 := (i 0).isLt; show _ < 16; omega⟩
def bot (i : S4096x512.Idx) : Bool := decide (128 ≤ (i 0).val % 256)
/-- The element within its block, and within its half block. -/
def inBlk (i : S4096x512.Idx) : S256x512.Idx
  | 0 => ⟨(i 0).val % 256, Nat.mod_lt _ (by decide)⟩
  | 1 => i 1
def inHalf (i : S4096x512.Idx) : S128x512.Idx
  | 0 => ⟨(i 0).val % 128, Nat.mod_lt _ (by decide)⟩
  | 1 => i 1

variable (x : Dev nD → Vec F S256x4096 .bf16) (w : Vec F S4096x512 .bf16)

/-- Device `c`'s result from every device's rows `x` and its own weights `w`. -/
def outAt (c : Dev nD) : Vec F S4096x512 .f32 := fun i =>
  if row i = c then k0_pay3 (x c) w (inBlk i) else k0_pay4 (half (x (row i)) (bot i)) w (inHalf i)

theorem far_ne (d : Bool) (h : Fin 15) (c : Dev nD) : far d (hi h) c ≠ c := by
  intro he
  have h1 := congrArg Fin.val he
  have := c.isLt; have := h.isLt
  have : c.val < 16 := c.isLt
  cases d <;> simp only [far, hi, Fin.val_succ, Bool.false_eq_true, if_false, if_true] at h1 <;> omega

/-- Some hop brings every other device's half. -/
theorem far_onto (d : Bool) (c r : Dev nD) (hr : r ≠ c) : ∃ h : Fin 15, r = far d (hi h) c := by
  have hc : c.val < 16 := c.isLt
  have hr' : r.val < 16 := r.isLt
  have hne : r.val ≠ c.val := fun h => hr (Fin.ext h)
  cases d
  · refine ⟨⟨(c.val + 16 - r.val) % 16 - 1, by omega⟩, Fin.ext ?_⟩
    simp only [far, hi, Fin.val_succ, Bool.false_eq_true, if_false]
    omega
  · refine ⟨⟨(r.val + 16 - c.val) % 16 - 1, by omega⟩, Fin.ext ?_⟩
    simp only [far, hi, Fin.val_succ, if_true]
    omega

theorem idx2_ext {n m : ℕ} {i j : (⟨2, ![n, m]⟩ : Shape).Idx} (h0 : (i 0).val = (j 0).val) (h1 : (i 1).val = (j 1).val) : i = j := by
  funext a
  revert a
  rw [Fin.forall_fin_two]
  exact ⟨Fin.ext h0, Fin.ext h1⟩

/-! ## One store -/

/-- Rows written before, and the half block `d` of hop `h`. -/
def onHop (c : Dev nD) (h : Fin 15) (d : Bool) (i : S4096x512.Idx) : Prop := row i = far d (hi h) c ∧ bot i = d

theorem hop_emb (c : Dev nD) (h : Fin 15) (d : Bool) (j : S128x512.Idx) :
    (((rHop c h d).emb j) 0).val = 256 * (far d (hi h) c).val + (if d then 128 else 0) + (j 0).val ∧ (((rHop c h d).emb j) 1).val = (j 1).val := by
  have h0 := Rect.emb_apply (rHop c h d) j 0
  have h1 := Rect.emb_apply (rHop c h d) j 1
  have e := offOf_eq c h d
  constructor
  · refine h0.trans ?_
    show offOf c h d 0 + 1 * (j 0).val = _
    rw [e, Nat.one_mul]; rfl
  · refine h1.trans ?_
    show offOf c h d 1 + 1 * (j 1).val = _
    rw [e, Nat.one_mul]; exact Nat.zero_add _

theorem onHop_emb (c : Dev nD) (h : Fin 15) (d : Bool) (j : S128x512.Idx) : onHop c h d ((rHop c h d).emb j) ∧ inHalf ((rHop c h d).emb j) = j := by
  obtain ⟨h0, h1⟩ := hop_emb c h d j
  have hj : (j 0).val < 128 := (j 0).isLt
  refine ⟨⟨Fin.ext ?_, ?_⟩, idx2_ext ?_ h1⟩
  · show (((rHop c h d).emb j) 0).val / 256 = _
    rw [h0]; cases d <;> simp only [Bool.false_eq_true, if_false, if_true] <;> omega
  · show decide (128 ≤ (((rHop c h d).emb j) 0).val % 256) = d
    rw [h0]; cases d <;> simp only [Bool.false_eq_true, if_false, if_true, decide_eq_true_eq, decide_eq_false_iff_not] <;> omega
  · show (((rHop c h d).emb j) 0).val % 128 = _
    rw [h0]; cases d <;> simp only [Bool.false_eq_true, if_false, if_true] <;> omega

theorem onHop_eq (c : Dev nD) (h : Fin 15) (d : Bool) (i : S4096x512.Idx) (hi' : onHop c h d i) : (rHop c h d).emb (inHalf i) = i := by
  obtain ⟨hr, hb⟩ := hi'
  obtain ⟨h0, h1⟩ := hop_emb c h d (inHalf i)
  refine idx2_ext (h0.trans ?_) h1
  rw [← hr]
  have h2 : ((inHalf i) 0).val = (i 0).val % 128 := rfl
  rw [h2]
  show 256 * ((i 0).val / 256) + _ + _ = _
  have hb' : decide (128 ≤ (i 0).val % 256) = d := hb
  cases d
  · have := of_decide_eq_false hb'
    simp only [Bool.false_eq_true, if_false]; omega
  · have := of_decide_eq_true hb'
    simp only [if_true]; omega

theorem write_hop (c : Dev nD) (h : Fin 15) (d : Bool) (P : S4096x512.Idx → Prop) (f : Vec F S4096x512 .f32) (hf : ∀ i, P i → f i = outAt x w c i) :
    ∀ i, (P i ∨ onHop c h d i) →
      (oM.access (rHop c h d)).write (Elt F) f (k0_pay4 (half (x (far d (hi h) c)) d) w) Finset.univ i = outAt x w c i := by
  intro i hP
  by_cases hi' : onHop c h d i
  · have e := onHop_eq c h d i hi'
    have e' : (oM.access (rHop c h d)).emb (inHalf i) = i := e
    rw [← e', View.write_emb_of_mem _ _ (Finset.mem_univ _), e']
    unfold outAt
    rw [if_neg (by rw [hi'.1]; exact far_ne d h c), hi'.1, hi'.2]
    rfl
  · rw [View.write_of_not_mem]
    · exact hf i (hP.resolve_right hi')
    · intro hm
      obtain ⟨j, -, hj⟩ := Finset.mem_map.mp hm
      have hj' : (rHop c h d).emb j = i := hj
      exact hi' (hj' ▸ (onHop_emb c h d j).1)

theorem own_emb (c : Dev nD) (j : S256x512.Idx) : (((rOwn c).emb j) 0).val = 256 * c.val + (j 0).val ∧ (((rOwn c).emb j) 1).val = (j 1).val := by
  have h0 := Rect.emb_apply (rOwn c) j 0
  have h1 := Rect.emb_apply (rOwn c) j 1
  have e := k0_off1_eq c
  constructor
  · refine h0.trans ?_
    show k0_off1 c 0 + 1 * (j 0).val = _
    rw [e, Nat.one_mul]; rfl
  · refine h1.trans ?_
    show k0_off1 c 1 + 1 * (j 1).val = _
    rw [e, Nat.one_mul]; exact Nat.zero_add _

theorem write_own (c : Dev nD) (f : Vec F S4096x512 .f32) :
    ∀ i, row i = c → (oM.access (rOwn c)).write (Elt F) f (k0_pay3 (x c) w) Finset.univ i = outAt x w c i := by
  intro i hi'
  have e : (rOwn c).emb (inBlk i) = i := by
    obtain ⟨h0, h1⟩ := own_emb c (inBlk i)
    refine idx2_ext (h0.trans ?_) h1
    have h2 : ((inBlk i) 0).val = (i 0).val % 256 := rfl
    have h3 : (i 0).val / 256 = c.val := congrArg Fin.val hi'
    rw [h2]; omega
  have e' : (oM.access (rOwn c)).emb (inBlk i) = i := e
  rw [← e', View.write_emb_of_mem _ _ (Finset.mem_univ _), e']
  unfold outAt
  rw [if_pos hi']
  rfl

/-! ## The rows written so far -/

/-- The rows the own product and the first `n` hops have written. -/
def done (c : Dev nD) (n : ℕ) (i : S4096x512.Idx) : Prop := row i = c ∨ ∃ (d : Bool) (h : Fin 15), h.val < n ∧ onHop c h d i

theorem done_zero {c : Dev nD} {i : S4096x512.Idx} (h : done c 0 i) : row i = c := h.resolve_right fun ⟨_, _, h', _⟩ => Nat.not_lt_zero _ h'
theorem done_succ {c : Dev nD} {h : Fin 15} {i : S4096x512.Idx} (hd : done c (h.val + 1) i) : (done c h.val i ∨ onHop c h false i) ∨ onHop c h true i := by
  rcases hd with hd | ⟨d, h', hl, ho⟩
  · exact .inl (.inl (.inl hd))
  · rcases Nat.lt_succ_iff_lt_or_eq.mp hl with hl | hl
    · exact .inl (.inl (.inr ⟨d, h', hl, ho⟩))
    · have := Fin.ext hl
      subst this
      cases d
      · exact .inl (.inr ho)
      · exact .inr ho
theorem done_all (c : Dev nD) (i : S4096x512.Idx) : done c 15 i := by
  by_cases h : row i = c
  · exact .inl h
  · obtain ⟨k, hk⟩ := far_onto (bot i) c (row i) h
    exact .inr ⟨bot i, k, k.isLt, hk, rfl⟩

end Cert.KernelIdeal.Ring

end
-- ==== Proof.Hop.lean ====
/-
  One hop: its four segments received and sent on in both directions, and the two half blocks multiplied.
-/
module

public import proofs.«01_k».proof.Proof.Steps
public import proofs.«01_k».proof.Proof.Out

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → Vec F S256x4096 .bf16) (K : Dev nD × CI → ℕ)

/-! ## A segment -/

/-- Something of the transfer one hop after, if there is one. -/
def nxt (R : Ed → sProp 𝕄) (e : Ed) : sProp 𝕄 := if hh : e.2.1.val + 1 < 15 then R (e.1, ⟨e.2.1.val + 1, hh⟩, e.2.2) else iprop(emp)

/-- What is left of a slot once it has been sent on, and of the last, which is not. -/
def qOf (k : Fin 16) : PosShare TreeShare := if k.val < 15 then fullShare.right else fullShare

/-- A segment received and sent on: its receive cell closed, the credit of its own transfer, what is left of it. -/
def got (c : Dev nD) (e : Ed) : sProp 𝕄 :=
  iprop(semVal (rcvCell c e) 0 ∗ nxt (flown c) e ∗ sg c e.1 (hi e.2.1) e.2.2 (qOf (hi e.2.1)) (X x c e.1 (hi e.2.1) e.2.2))

theorem wp_next (c n : Dev nD) (e : Ed) (hn : n = nb e.1 c) (t : ℕ) (ht : t = pos e + 8) :
    iprop(records x K ∗ ow c t ∗ sg c e.1 (hi e.2.1) e.2.2 fullShare (X x c e.1 (hi e.2.1) e.2.2) ∗ nxt (out c) e)
      ⊢ wp frame (wpE (defs₀ (F := F)) 𝒱₀ (c : Thread nD τ) none) Set.univ (next (B e.1) (hB e.1) (sndA e.1) (rcvA e.1) n e.2.1 e.2.2)
          (fun _ => iprop(ow c (t + 1) ∗ nxt (flown c) e ∗ sg c e.1 (hi e.2.1) e.2.2 (qOf (hi e.2.1)) (X x c e.1 (hi e.2.1) e.2.2))) := by
  subst ht
  unfold next nxt qOf
  by_cases hh : e.2.1.val + 1 < 15
  · rw [dif_pos hh, dif_pos hh, dif_pos hh, if_pos (by rw [Fin.val_succ]; exact hh)]
    have h8 : pos e + 8 = pos (e.1, ⟨e.2.1.val + 1, hh⟩, e.2.2) := by unfold pos; dsimp only; omega
    rw [h8]
    exact wp_start x K c n (e.1, ⟨e.2.1.val + 1, hh⟩, e.2.2) hn
  · have hl := e.2.1.isLt
    rw [dif_neg hh, dif_neg hh, dif_neg hh, if_neg (by rw [Fin.val_succ]; exact hh), Prog.pure_eq_ret, wp_ret]
    have h8 : 120 ≤ pos e + 8 := by unfold pos; omega
    unfold ow
    rw [rest_end c h8, rest_end c (Nat.le_succ_of_le h8)]
    iintro ⟨-, HO, Hs, -⟩
    imodintro
    isplitl [HO]; · iexact HO
    isplitr; · iempintro
    iexact Hs

theorem wp_segStep (c : Dev nD) (h : Fin 15) (s : Fin 4) :
    iprop((records x K ∗ levAts L lv ∗ ow c (8 * (h.val + 1) + 2 * s.val))
        ∗ (inn c (false, h, s) ∗ nxt (out c) (false, h, s)) ∗ (inn c (true, h, s) ∗ nxt (out c) (true, h, s)))
      ⊢ wp frame (wpE (defs₀ (F := F)) 𝒱₀ (c : Thread nD τ) none) Set.univ
          (segStep (B false) (hB false) (B true) (hB true) (sndA false) (rcvA false) (sndA true) (rcvA true) c h s)
          (fun _ => iprop((records x K ∗ levAts L lv ∗ ow c (8 * (h.val + 1) + 2 * (s.val + 1))) ∗ got x c (false, h, s) ∗ got x c (true, h, s))) := by
  have e0 : 8 * (h.val + 1) + 2 * s.val = pos (false, h, s) + 8 := by simp only [pos, Bool.false_eq_true, if_false]; omega
  have e1 : pos (false, h, s) + 8 + 1 = pos (true, h, s) + 8 := by simp only [pos, Bool.false_eq_true, if_false, if_true]
  have e2 : 8 * (h.val + 1) + 2 * (s.val + 1) = pos (true, h, s) + 8 + 1 := by simp only [pos, if_true]; omega
  rw [e0, e2]
  unfold segStep got
  simp only [wp_bind]
  iintro ⟨⟨#HK, #Hlev, HO⟩, ⟨Hi0, Ho0⟩, Hi1, Ho1⟩
  iapply (run c (wp_recv x K c (false, h, s) (pos (false, h, s) + 8) (by omega))) $$ [HO Hi0]
  · isplitr; · iexact HK
    isplitr; · iexact Hlev
    isplitl [HO]; · iexact HO
    iexact Hi0
  iintro ⟨HO, Hz0, Hs0⟩
  iapply (run c (wp_next x K c _ (false, h, s) (rgt_eq c) _ rfl)) $$ [HO Hs0 Ho0]
  · isplitr; · iexact HK
    isplitl [HO]; · iexact HO
    isplitl [Hs0]; · iexact Hs0
    iexact Ho0
  rw [e1]
  iintro ⟨HO, Hf0, Hs0⟩
  iapply (run c (wp_recv x K c (true, h, s) (pos (true, h, s) + 8) (by omega))) $$ [HO Hi1]
  · isplitr; · iexact HK
    isplitr; · iexact Hlev
    isplitl [HO]; · iexact HO
    iexact Hi1
  iintro ⟨HO, Hz1, Hs1⟩
  iapply (run c (wp_next x K c _ (true, h, s) (lft_eq c) _ rfl)) $$ [HO Hs1 Ho1]
  · isplitr; · iexact HK
    isplitl [HO]; · iexact HO
    isplitl [Hs1]; · iexact Hs1
    iexact Ho1
  iintro ⟨HO, Hf1, Hs1⟩
  isplitl [HO]
  · isplitr; · iexact HK
    isplitr; · iexact Hlev
    iexact HO
  isplitl [Hz0 Hf0 Hs0]
  · isplitl [Hz0]; · iexact Hz0
    isplitl [Hf0]; · iexact Hf0
    iexact Hs0
  isplitl [Hz1]; · iexact Hz1
  isplitl [Hf1]; · iexact Hf1
  iexact Hs1

/-! ## A product -/

/-- A device's weights in their staging buffer, and its result's. -/
def wPts (c : Dev nD) (w : Vec F S4096x512 .bf16) : sProp 𝕄 := ((c : Thread nD τ).loc cc0_stg1_0) ↦{fullShare} w
def oPts (c : Dev nD) (f : Vec F S4096x512 .f32) : sProp 𝕄 := ((c : Thread nD τ).loc cc0_stg2_0) ↦{fullShare} f

theorem read_w (w : Vec F S4096x512 .bf16) :
    wM.view.readAt (Elt F) (Rect.unit (s := S4096x512) ![0, 0] S4096x512.size inb_S4096x512_S4096x512_0_0).toLoadRect w = w :=
  Memref.readAt_unit_zero (Elt F) cc0_stg1_0 (by decide) _ w

theorem wp_dot (c : Dev nD) (h : Fin 15) (d : Bool) (w : Vec F S4096x512 .bf16) (f : Vec F S4096x512 .f32) :
    iprop(wPts c w ∗ oPts c f ∗ bigSep Finset.univ fun s : Fin 4 => sg c d (hi h) s (qOf (hi h)) (X x c d (hi h) s))
      ⊢ wp frame (wpE (defs₀ (F := F)) 𝒱₀ (c : Thread nD τ) none) Set.univ (dotStep wM oM (B d) h (offOf c h d) (offOf_inb c h d))
          (fun _ => iprop(wPts c w
            ∗ oPts c ((oM.access (rHop c h d)).write (Elt F) f (k0_pay4 (half (x (far d (hi h) c)) d) w) Finset.univ)
            ∗ bigSep Finset.univ fun s : Fin 4 => sg c d (hi h) s (qOf (hi h)) (X x c d (hi h) s))) := by
  unfold dotStep wPts oPts
  simp only [Prog.lift, Prog.bind_op, Prog.bind_ret]
  iintro ⟨Hw, Ho, Hs⟩
  have hj : (bigSep Finset.univ fun s : Fin 4 => sg c d (hi h) s (qOf (hi h)) (X x c d (hi h) s) : sProp 𝕄) ⊢ _ :=
    slot_join (B d) c (hi h) (qOf (hi h)) (half (x (far d (hi h) c)) d)
  ihave Hj := hj $$ Hs
  icases Hj with ⟨%g, %hg, Hb⟩
  iapply (wp_load 𝒱₀ (c : Thread nD τ) none Set.univ (m := B d) (r := (rSlot (hi h)).toLoadRect) (by rw [slot_set]; exact Finset.Subset.refl _)) $$ Hb
  iintro Hb
  rw [hg]
  iapply (wp_load 𝒱₀ (c : Thread nD τ) none Set.univ (m := wM) (Finset.subset_univ _)) $$ Hw
  iintro Hw
  rw [read_w]
  iapply (wp_load 𝒱₀ (c : Thread nD τ) none Set.univ (m := oM) (Finset.subset_univ _)) $$ Ho
  iintro Ho
  iapply (wp_store 𝒱₀ (c : Thread nD τ) none Set.univ (m := oM) (r := rHop c h d) (Mk := Finset.univ) (Finset.subset_univ _)) $$ Ho
  iintro Ho
  rw [wp_ret]; imodintro
  isplitl [Hw]; · iexact Hw
  isplitl [Ho]; · iexact Ho
  ihave Hs := (slot_split (B d) c (hi h) (qOf (hi h)) g) $$ Hb
  rw [hg]
  iexact Hs

/-! ## A hop -/

/-- What the hops keep: the weights, and the result with the rows written so far. -/
def keep (c : Dev nD) (w : Vec F S4096x512 .bf16) (n : ℕ) : sProp 𝕄 :=
  iprop(wPts c w ∗ ∃ f, ⌜∀ i, done c n i → f i = outAt x w c i⌝ ∗ oPts c f)

/-- What one hop takes, and what it leaves. -/
def takes (c : Dev nD) (h : Fin 15) : sProp 𝕄 :=
  bigSep Finset.univ fun s : Fin 4 => iprop((inn c (false, h, s) ∗ nxt (out c) (false, h, s)) ∗ (inn c (true, h, s) ∗ nxt (out c) (true, h, s)))
def leaves (c : Dev nD) (h : Fin 15) : sProp 𝕄 := bigSep Finset.univ fun s : Fin 4 => iprop(got x c (false, h, s) ∗ got x c (true, h, s))

theorem wp_hop (c : Dev nD) (w : Vec F S4096x512 .bf16) (h : Fin 15) :
    iprop(((records x K ∗ levAts L lv ∗ ow c (8 * (h.val + 1))) ∗ keep x c w h.val) ∗ takes c h)
      ⊢ wp frame (wpE (defs₀ (F := F)) 𝒱₀ (c : Thread nD τ) none) Set.univ
          (hop wM oM (B false) (hB false) (B true) (hB true) (sndA false) (rcvA false) (sndA true) (rcvA true) c h)
          (fun _ => iprop(((records x K ∗ levAts L lv ∗ ow c (8 * (h.val + 1 + 1))) ∗ keep x c w (h.val + 1)) ∗ leaves x c h)) := by
  unfold hop keep takes leaves
  simp only [wp_bind]
  iintro ⟨⟨HJ, Hw, ⟨%f, %hf, Ho⟩⟩, Ht⟩
  iapply (run c (wp_each c 4 (fun s => iprop(records x K ∗ levAts L lv ∗ ow c (8 * (h.val + 1) + 2 * s))) _ _ _ fun s => wp_segStep x K c h s)) $$ [HJ Ht]
  · isplitl [HJ]; · iexact HJ
    iexact Ht
  rw [show 8 * (h.val + 1) + 2 * 4 = 8 * (h.val + 1 + 1) from by omega]
  unfold got
  simp only [bigSep_sep']
  iintro ⟨HJ, ⟨Hz0, Hf0, Hs0⟩, Hz1, Hf1, Hs1⟩
  iapply (run c (wp_dot x c h false w f)) $$ [Hw Ho Hs0]
  · isplitl [Hw]; · iexact Hw
    isplitl [Ho]; · iexact Ho
    iexact Hs0
  iintro ⟨Hw, Ho, Hs0⟩
  iapply (run c (wp_dot x c h true w _)) $$ [Hw Ho Hs1]
  · isplitl [Hw]; · iexact Hw
    isplitl [Ho]; · iexact Ho
    iexact Hs1
  iintro ⟨Hw, Ho, Hs1⟩
  isplitl [HJ Hw Ho]
  · isplitl [HJ]; · iexact HJ
    isplitl [Hw]; · iexact Hw
    iexists _
    isplitr
    rotate_left
    · iexact Ho
    · ipureintro
      exact fun i hi' => write_hop x w c h true _ _ (write_hop x w c h false _ f hf) i (done_succ hi')
  isplitl [Hz0 Hf0 Hs0]
  · isplitl [Hz0]; · iexact Hz0
    isplitl [Hf0]; · iexact Hf0
    iexact Hs0
  isplitl [Hz1]; · iexact Hz1
  isplitl [Hf1]; · iexact Hf1
  iexact Hs1

end Cert.KernelIdeal.Ring

end
-- ==== Proof.Gather.lean ====
/-
  The transfers of a device as one family, hop by hop, and a gather buffer put together again at the end.
-/
module

public import proofs.«01_k».proof.Proof.Hop

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The transfers, hop by hop -/

/-- Both directions' part of one segment of one hop. -/
def both (Φ : Ed → sProp 𝕄) (h : Fin 15) (s : Fin 4) : sProp 𝕄 := iprop(Φ (false, h, s) ∗ Φ (true, h, s))

theorem ed_hops (Φ : Ed → sProp 𝕄) :
    bigSep Finset.univ Φ = bigSep Finset.univ fun h : Fin 15 => bigSep Finset.univ fun s : Fin 4 => both Φ h s := by
  unfold both
  rw [bigSep_univ_prod, bigSep_bool, bigSep_univ_prod, bigSep_univ_prod, ← bigSep_sep']
  exact bigSep_congr fun h _ => (bigSep_sep' _ _ _).symm

/-- All of a family: the first hop's, and every hop's next. -/
theorem ed_next (Φ : Ed → sProp 𝕄) :
    bigSep Finset.univ Φ = iprop((bigSep Finset.univ fun s : Fin 4 => both Φ 0 s) ∗ bigSep Finset.univ fun e : Ed => nxt Φ e) := by
  have h1 : ∀ h : Fin 15, (bigSep Finset.univ fun s : Fin 4 => both (fun e => nxt Φ e) h s)
      = if hh : h.val + 1 < 14 + 1 then (bigSep Finset.univ fun s : Fin 4 => both Φ ⟨h.val + 1, hh⟩ s) else iprop(emp) := by
    intro h
    unfold both nxt
    by_cases hh : h.val + 1 < 14 + 1
    · rw [dif_pos hh]
      exact bigSep_congr fun s _ => by
        dsimp only
        rw [dif_pos (show h.val + 1 < 15 from hh), dif_pos (show h.val + 1 < 15 from hh)]
    · rw [dif_neg hh]
      refine (bigSep_congr fun s _ => ?_).trans (bigSep_emp_const _)
      dsimp only
      rw [dif_neg (show ¬ h.val + 1 < 15 from hh), dif_neg (show ¬ h.val + 1 < 15 from hh)]
      exact equiv_iff.mp BI.sep_emp
  rw [ed_hops (fun e => nxt Φ e), bigSep_congr fun h _ => h1 h, ed_hops Φ, bigSep_fin_succ,
    bigSep_next (fun h : Fin 15 => bigSep Finset.univ fun s : Fin 4 => both Φ h s)]
  congr 1
  exact (equiv_iff.mp BI.sep_emp).symm

/-! ## A buffer at the end -/

theorem owns_join (c : Dev nD) (d : Bool) (k : Fin 16) (s : Fin 4) (V : S32x4096.Idx → Elt F .bf16) :
    iprop(sg c d k s fullShare.left V ∗ sg c d k s fullShare.right V) ⊢ (iprop(∃ V, sg c d k s fullShare V) : sProp 𝕄) := by
  unfold sg owns
  iintro ⟨⟨%f, %hf, H1⟩, %g, %hg, H2⟩
  have e : ∀ i ∈ (seg (B d) k s).view.set, g i = f i := by
    intro i hi'
    obtain ⟨j, -, rfl⟩ := Finset.mem_map.mp hi'
    have := congrFun (hg.trans hf.symm) j
    rw [View.read_apply, View.read_apply] at this
    exact (cast_bijective _).injective this
  ihave H3 := (Entails.of_eq (pointsTo_congr (ℓ := (seg (B d) k s).view.loc (c : Thread nD τ)) e)) $$ H2
  iexists V, f
  isplitr; · ipureintro; exact hf
  iapply (pointsTo_share (PosShare.mem_left_op_right fullShare)).2
  isplitl [H1]; · iexact H1
  iexact H3

variable (x : Dev nD → Vec F S256x4096 .bf16)

/-- The first slot and the slots received into are the slots sent on and the last. -/
theorem slots_regroup (T : Fin 16 → PosShare TreeShare → sProp 𝕄) :
    iprop(T 0 fullShare.right ∗ bigSep Finset.univ fun h : Fin 15 => T (hi h) (qOf (hi h)))
      = iprop((bigSep Finset.univ fun h : Fin 15 => T (lo h) fullShare.right) ∗ T (Fin.last 15) fullShare) := by
  have h1 := bigSep_fin_succ (n := 15) (fun k : Fin 16 => T k (qOf k))
  have h2 := bigSep_fin_last (n := 15) (fun k : Fin 16 => T k (qOf k))
  have q0 : qOf 0 = fullShare.right := if_pos (by decide)
  have q1 : qOf (Fin.last 15) = fullShare := if_neg (by decide)
  have q2 : ∀ h : Fin 15, qOf h.castSucc = fullShare.right := fun h => if_pos h.isLt
  simp only [q0, q1, q2] at h1 h2
  exact h1.symm.trans h2

/-- What is left of the slots, with what the read-outs gave back, is the buffer. -/
theorem buf_back (c : Dev nD) (d : Bool) :
    iprop((bigSep Finset.univ fun s : Fin 4 => sg c d 0 s fullShare.right (X x c d 0 s))
        ∗ (bigSep Finset.univ fun hs : Fin 15 × Fin 4 => sg c d (hi hs.1) hs.2 (qOf (hi hs.1)) (X x c d (hi hs.1) hs.2))
        ∗ bigSep Finset.univ fun hs : Fin 15 × Fin 4 => sg c d (lo hs.1) hs.2 fullShare.left (X x c d (lo hs.1) hs.2))
      ⊢ (iprop(∃ g : Buf (Elt F) ((B d).view.loc (c : Thread nD τ)), ((B d).view.loc (c : Thread nD τ) ↦[(B d).view.set]{fullShare} g)) : sProp 𝕄) := by
  refine BIBase.Entails.trans ?_ (buf_join (B d) c)
  have j : (iprop((bigSep Finset.univ fun h : Fin 15 => bigSep Finset.univ fun s : Fin 4 => sg c d (lo h) s fullShare.left (X x c d (lo h) s))
        ∗ bigSep Finset.univ fun h : Fin 15 => bigSep Finset.univ fun s : Fin 4 => sg c d (lo h) s fullShare.right (X x c d (lo h) s)) : sProp 𝕄)
      ⊢ bigSep Finset.univ fun h : Fin 15 => bigSep Finset.univ fun s : Fin 4 => iprop(∃ V, sg c d (lo h) s fullShare V) := by
    rw [← bigSep_sep']
    refine bigSep_mono fun h _ => ?_
    rw [← bigSep_sep']
    exact bigSep_mono fun s _ => owns_join c d (lo h) s _
  have l : (bigSep Finset.univ fun s : Fin 4 => sg c d (Fin.last 15) s fullShare (X x c d (Fin.last 15) s) : sProp 𝕄)
      ⊢ bigSep Finset.univ fun s : Fin 4 => iprop(∃ V, sg c d (Fin.last 15) s fullShare V) := by
    refine bigSep_mono fun s _ => ?_
    show (sg c d (Fin.last 15) s fullShare (X x c d (Fin.last 15) s) : sProp 𝕄) ⊢ _
    iintro H; iexists _; iexact H
  have e := slots_regroup (fun k q => (bigSep Finset.univ fun s : Fin 4 => sg c d k s q (X x c d k s) : sProp 𝕄))
  rw [bigSep_univ_prod (fun ks : Fin 16 × Fin 4 => (iprop(∃ V, owns (c : Thread nD τ) (seg (B d) ks.1 ks.2) fullShare V) : sProp 𝕄)), bigSep_fin_last (n := 15),
    bigSep_univ_prod (fun hs : Fin 15 × Fin 4 => (sg c d (lo hs.1) hs.2 fullShare.left (X x c d (lo hs.1) hs.2) : sProp 𝕄)),
    bigSep_univ_prod (fun hs : Fin 15 × Fin 4 => (sg c d (hi hs.1) hs.2 (qOf (hi hs.1)) (X x c d (hi hs.1) hs.2) : sProp 𝕄))]
  dsimp only at e ⊢
  iintro ⟨H0, Hr, Hl⟩
  ihave H := (Entails.of_eq e) $$ [H0 Hr]
  · isplitl [H0]; · iexact H0
    iexact Hr
  icases H with ⟨Hr, Hlast⟩
  isplitl [Hl Hr]
  · iapply j
    isplitl [Hl]; · iexact Hl
    iexact Hr
  iapply l; iexact Hlast

end Cert.KernelIdeal.Ring

end
-- ==== Proof.Parts.lean ====
/-
  The whole body on a device: handshake, own halves filled in and sent, own product, fifteen hops, read-outs waited for.
-/
module

public import proofs.«01_k».proof.Proof.Gather

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → Vec F S256x4096 .bf16) (K : Dev nD × CI → ℕ)

/-! ## The handshake -/

/-- The slots a device hands over for its neighbour to write: all but its own of one buffer. -/
def free (c : Dev nD) (d : Bool) : sProp 𝕄 :=
  bigSep Finset.univ fun hs : Fin 15 × Fin 4 => iprop(∃ V, sg (F := F) c d (hi hs.1) hs.2 fullShare V)

theorem free_eq (c : Dev nD) (d : Bool) : free c d = barPay (F := F) (nb (!d) c) d := by
  unfold free barPay dst
  exact bigSep_congr fun hs _ => by dsimp only; rw [nb_nb]

/-- The duties a device pays at the handshake. -/
def barToks (c : Dev nD) : sProp 𝕄 := iprop(dutyTok ER (barCell (nb true c)) 0 false ∗ dutyTok ER (barCell (nb false c)) 0 true)

theorem wp_handshake (c : Dev nD) :
    iprop(records x K ∗ levAts L lv ∗ (∃ W, owes (c : Thread nD τ) (O₀ c) W) ∗ atPos ER (barCell c) 0 ∅ 0 ∗ cred (tallyAt (barCell c) () 2)
        ∗ barToks c ∗ free c false ∗ free c true)
      ⊢ wp frame (wpE (defs₀ (F := F)) 𝒱₀ (c : Thread nD τ) none) Set.univ (handshake c)
          (fun _ => iprop(ow c 0 ∗ semVal (barCell c) 0 ∗ bigSep Finset.univ fun e : Ed => dst c e)) := by
  rw [free_eq c false, free_eq c true]
  unfold handshake barToks ow
  simp only [semSignalWord, semWaitWord, Prog.lift, Prog.bind_op, Prog.bind_ret, lft_eq, rgt_eq]
  iintro ⟨#HK, #Hlev, ⟨%W, HO⟩, Hat, Hc, ⟨Ht0, Ht1⟩, Hf0, Hf1⟩
  iapply (Rounds.wp_signal 𝒱₀ ER (ringRd x) (c : Thread nD τ) none (dst := (nb true c : Thread nD τ)) (κ := K (nb true c, none))
      (d := false) (by rw [duties_bar]; exact Finset.mem_univ _) ((amount_bar x (nb true c) false).trans (by decide)) () (O₁ c) rfl) $$ [HO Ht0 Hf0]
  · isplitr; · iapply (inv_at x K (nb true c, none)); iexact HK
    isplitl [HO]; · iexact HO
    isplitl [Ht0]; · iexact Ht0
    isplitl [Hf0]; · rw [payload_bar]; iexact Hf0
    iapply (reached_at x K (nb true c, none)); iexact HK
  iintro HO
  iapply (Rounds.wp_signal 𝒱₀ ER (ringRd x) (c : Thread nD τ) none (dst := (nb false c : Thread nD τ)) (κ := K (nb false c, none))
      (d := true) (by rw [duties_bar]; exact Finset.mem_univ _) ((amount_bar x (nb false c) true).trans (by decide)) () (rest c 0) rfl) $$ [HO Ht1 Hf1]
  · isplitr; · iapply (inv_at x K (nb false c, none)); iexact HK
    isplitl [HO]; · iexact HO
    isplitl [Ht1]; · iexact Ht1
    isplitl [Hf1]; · rw [payload_bar]; iexact Hf1
    iapply (reached_at x K (nb false c, none)); iexact HK
  iintro HO
  iapply (Rounds.wp_wait_rest_token 𝒱₀ ER (ringRd x) (c : Thread nD τ) none (κ := K (c, none))
      (wpE_semWait_eq 𝒱₀ (c : Thread nD τ) none Set.univ) (Set.mem_univ _) () (O := rest c 0) (W := W) (R := 0) (m := 0) (T := ∅)
      (by rw [expect_bar]; decide)) $$ [Hc HO Hat]
  · isplitr; · iapply (inv_at x K (c, none)); iexact HK
    isplitl [Hc]; · iexact Hc
    isplitl [HO]; · iexact HO
    isplitr; · iapply (mayWait_rest c _ 0 (by rw [lv_bar]; decide)); iexact Hlev
    iexact Hat
  iintro ⟨HO, Hat, -, Hpay⟩
  ihave Hp := (Entails.of_eq (rest_bar x c)) $$ Hpay
  imod (Rounds.cell_close ER (ringRd x) (Set.mem_univ (K (c, none))) (fun h => h) (R := 0 + 1) (duties_later x (barCell c))) $$ [Hat] with Hz
  · isplitr; · iapply (inv_at x K (c, none)); iexact HK
    iexact Hat
  rw [wp_ret]; imodintro
  isplitl [HO]; · iexists _; iexact HO
  isplitl [Hz]; · iexact Hz
  iexact Hp

/-! ## The own block -/

def xPts (c : Dev nD) (v : Vec F S256x4096 .bf16) : sProp 𝕄 := ((c : Thread nD τ).loc cc0_stg0_0) ↦{fullShare} v

/-- Slot 0 of a buffer, and the same as its four segments holding the own half. -/
def slot0 (c : Dev nD) (d : Bool) : sProp 𝕄 :=
  iprop(∃ g : Buf (Elt F) ((B d).view.loc (c : Thread nD τ)), ((B d).view.loc (c : Thread nD τ) ↦[((B d).access (rSlot 0)).set]{fullShare} g))
def own0 (c : Dev nD) (d : Bool) : sProp 𝕄 := bigSep Finset.univ fun s : Fin 4 => sg c d 0 s fullShare (X x c d 0 s)

theorem own0_intro (c : Dev nD) (d : Bool) (g : Buf (Elt F) ((B d).view.loc (c : Thread nD τ))) :
    ((B d).view.loc (c : Thread nD τ) ↦[((B d).access (rSlot 0)).set]{fullShare} (((B d).access (rSlot 0)).write (Elt F) g (half (x c) d) Finset.univ) : sProp 𝕄)
      ⊢ own0 x c d := by
  have h := slot_split (B d) c 0 fullShare (((B d).access (rSlot 0)).write (Elt F) g (half (x c) d) Finset.univ)
  have e : (B d).view.readAt (Elt F) (rSlot 0).toLoadRect (((B d).access (rSlot 0)).write (Elt F) g (half (x c) d) Finset.univ) = half (x c) d :=
    View.read_write_univ _ _
  rw [e] at h
  unfold own0 X
  rw [far_zero]
  exact h

theorem wp_fill (c : Dev nD) :
    iprop(xPts c (x c) ∗ slot0 (F := F) c false ∗ slot0 (F := F) c true)
      ⊢ wp frame (wpE (defs₀ (F := F)) 𝒱₀ (c : Thread nD τ) none) Set.univ (fill xM (B false) (hB false) (B true) (hB true))
          (fun _ => iprop(xPts c (x c) ∗ own0 x c false ∗ own0 x c true)) := by
  unfold fill xPts slot0
  simp only [Prog.lift, Prog.bind_op, Prog.bind_ret]
  iintro ⟨Hx, ⟨%g0, H0⟩, %g1, H1⟩
  iapply (wp_load 𝒱₀ (c : Thread nD τ) none Set.univ (m := xM) (Finset.subset_univ _)) $$ Hx
  iintro Hx
  iapply (wp_load 𝒱₀ (c : Thread nD τ) none Set.univ (m := B false) (r := (rSlot 0).toLoadRect) (by rw [slot_set]; exact Finset.Subset.refl _)) $$ H0
  iintro H0
  iapply (wp_store 𝒱₀ (c : Thread nD τ) none Set.univ (m := B false) (r := rSlot 0) (Mk := Finset.univ) (S := ((B false).access (rSlot 0)).set) (Finset.Subset.refl _)) $$ H0
  iintro H0
  iapply (wp_load 𝒱₀ (c : Thread nD τ) none Set.univ (m := xM) (Finset.subset_univ _)) $$ Hx
  iintro Hx
  iapply (wp_load 𝒱₀ (c : Thread nD τ) none Set.univ (m := B true) (r := (rSlot 0).toLoadRect) (by rw [slot_set]; exact Finset.Subset.refl _)) $$ H1
  iintro H1
  iapply (wp_store 𝒱₀ (c : Thread nD τ) none Set.univ (m := B true) (r := rSlot 0) (Mk := Finset.univ) (S := ((B true).access (rSlot 0)).set) (Finset.Subset.refl _)) $$ H1
  iintro H1
  rw [wp_ret]; imodintro
  isplitl [Hx]; · iexact Hx
  isplitl [H0]
  · iapply (own0_intro x c false g0); iexact H0
  iapply (own0_intro x c true g1); iexact H1

theorem read_x (v : Vec F S256x4096 .bf16) :
    xM.view.readAt (Elt F) (Rect.unit (s := S256x4096) ![0, 0] S256x4096.size inb_S256x4096_S256x4096_0_0).toLoadRect v = v :=
  Memref.readAt_unit_zero (Elt F) cc0_stg0_0 (by decide) _ v

theorem wp_ownDot (c : Dev nD) (w : Vec F S4096x512 .bf16) :
    iprop(xPts c (x c) ∗ wPts c w ∗ ∃ f, oPts c f)
      ⊢ wp frame (wpE (defs₀ (F := F)) 𝒱₀ (c : Thread nD τ) none) Set.univ (ownDot xM wM oM c)
          (fun _ => iprop(xPts c (x c) ∗ keep x c w 0)) := by
  unfold ownDot xPts keep wPts oPts
  simp only [Prog.lift, Prog.bind_op, Prog.bind_ret]
  iintro ⟨Hx, Hw, %f, Ho⟩
  iapply (wp_load 𝒱₀ (c : Thread nD τ) none Set.univ (m := xM) (Finset.subset_univ _)) $$ Hx
  iintro Hx
  iapply (wp_load 𝒱₀ (c : Thread nD τ) none Set.univ (m := wM) (Finset.subset_univ _)) $$ Hw
  iintro Hw
  rw [read_x, read_w]
  iapply (wp_load 𝒱₀ (c : Thread nD τ) none Set.univ (m := oM) (Finset.subset_univ _)) $$ Ho
  iintro Ho
  iapply (wp_store 𝒱₀ (c : Thread nD τ) none Set.univ (m := oM) (r := rOwn c) (Mk := Finset.univ) (Finset.subset_univ _)) $$ Ho
  iintro Ho
  rw [wp_ret]; imodintro
  isplitl [Hx]; · iexact Hx
  isplitl [Hw]; · iexact Hw
  iexists ((oM.access (rOwn c)).write (Elt F) f (k0_pay3 (x c) w) Finset.univ)
  isplitr
  · ipureintro
    exact fun i h => write_own x w c f i (done_zero h)
  iexact Ho

/-! ## The first transfers and the last waits -/

theorem wp_starts (c : Dev nD) :
    iprop((records x K ∗ ow c 0) ∗ bigSep Finset.univ fun s : Fin 4 =>
        iprop((sg c false 0 s fullShare (X x c false 0 s) ∗ sg c true 0 s fullShare (X x c true 0 s)) ∗ both (out c) 0 s))
      ⊢ wp frame (wpE (defs₀ (F := F)) 𝒱₀ (c : Thread nD τ) none) Set.univ
          (each 4 fun s => do
            start (B false) (hB false) (sndA false) (rcvA false) (rgt c) 0 s
            start (B true) (hB true) (sndA true) (rcvA true) (lft c) 0 s)
          (fun _ => iprop((records x K ∗ ow c (2 * 4)) ∗ bigSep Finset.univ fun s : Fin 4 =>
            iprop((sg c false 0 s fullShare.right (X x c false 0 s) ∗ sg c true 0 s fullShare.right (X x c true 0 s)) ∗ both (flown c) 0 s))) := by
  refine wp_each c 4 (fun s => iprop(records x K ∗ ow c (2 * s))) _ _ _ fun s => ?_
  have e0 : 2 * s.val = pos (false, 0, s) := by simp only [pos, Bool.false_eq_true, if_false, Fin.val_zero]; omega
  have e1 : pos (false, 0, s) + 1 = pos (true, 0, s) := by simp only [pos, Bool.false_eq_true, if_false, if_true]
  have e2 : 2 * (s.val + 1) = pos (true, 0, s) + 1 := by simp only [pos, if_true, Fin.val_zero]; omega
  rw [e0, e2]
  unfold both
  simp only [wp_bind]
  iintro ⟨⟨#HK, HO⟩, ⟨Hs0, Hs1⟩, Ho0, Ho1⟩
  iapply (run c (wp_start x K c _ (false, 0, s) (rgt_eq c))) $$ [HO Hs0 Ho0]
  · isplitr; · iexact HK
    isplitl [HO]; · iexact HO
    isplitl [Hs0]; · iexact Hs0
    iexact Ho0
  rw [e1]
  iintro ⟨HO, Hf0, Hs0⟩
  iapply (run c (wp_start x K c _ (true, 0, s) (lft_eq c))) $$ [HO Hs1 Ho1]
  · isplitr; · iexact HK
    isplitl [HO]; · iexact HO
    isplitl [Hs1]; · iexact Hs1
    iexact Ho1
  iintro ⟨HO, Hf1, Hs1⟩
  isplitl [HO]
  · isplitr; · iexact HK
    iexact HO
  isplitl [Hs0 Hs1]
  · isplitl [Hs0]; · iexact Hs0
    iexact Hs1
  isplitl [Hf0]; · iexact Hf0
  iexact Hf1

/-- What the wait for a read-out takes, and what it brings. -/
def flying (c : Dev nD) (e : Ed) : sProp 𝕄 := iprop(flown c e ∗ atPos ER (sndCell c e) 0 ∅ 0)
def back (c : Dev nD) (e : Ed) : sProp 𝕄 :=
  iprop(semVal (sndCell c e) 0 ∗ sg c e.1 (lo e.2.1) e.2.2 fullShare.left (X x c e.1 (lo e.2.1) e.2.2))

theorem wp_waitSeg (c : Dev nD) (h : Fin 15) (s : Fin 4) :
    iprop((records x K ∗ levAts L lv ∗ ow c 128) ∗ both (flying (F := F) c) h s)
      ⊢ wp frame (wpE (defs₀ (F := F)) 𝒱₀ (c : Thread nD τ) none) Set.univ
          (do
            sent (B false) (hB false) (sndA false) h s
            sent (B true) (hB true) (sndA true) h s)
          (fun _ => iprop((records x K ∗ levAts L lv ∗ ow c 128) ∗ both (back x c) h s)) := by
  unfold both flying back
  simp only [wp_bind]
  iintro ⟨⟨#HK, #Hlev, HO⟩, ⟨Hf0, Ha0⟩, Hf1, Ha1⟩
  iapply (run c (wp_sent x K c (false, h, s) 128)) $$ [HO Hf0 Ha0]
  · isplitr; · iexact HK
    isplitr; · iexact Hlev
    isplitl [HO]; · iexact HO
    isplitl [Hf0]; · iexact Hf0
    iexact Ha0
  iintro ⟨HO, Hz0, Hs0⟩
  iapply (run c (wp_sent x K c (true, h, s) 128)) $$ [HO Hf1 Ha1]
  · isplitr; · iexact HK
    isplitr; · iexact Hlev
    isplitl [HO]; · iexact HO
    isplitl [Hf1]; · iexact Hf1
    iexact Ha1
  iintro ⟨HO, Hz1, Hs1⟩
  isplitl [HO]
  · isplitr; · iexact HK
    isplitr; · iexact Hlev
    iexact HO
  isplitl [Hz0 Hs0]
  · isplitl [Hz0]; · iexact Hz0
    iexact Hs0
  isplitl [Hz1]; · iexact Hz1
  iexact Hs1

theorem wp_waitHop (c : Dev nD) (h : Fin 15) :
    iprop((records x K ∗ levAts L lv ∗ ow c 128) ∗ bigSep Finset.univ fun s : Fin 4 => both (flying (F := F) c) h s)
      ⊢ wp frame (wpE (defs₀ (F := F)) 𝒱₀ (c : Thread nD τ) none) Set.univ
          (each 4 fun s => do
            sent (B false) (hB false) (sndA false) h s
            sent (B true) (hB true) (sndA true) h s)
          (fun _ => iprop((records x K ∗ levAts L lv ∗ ow c 128) ∗ bigSep Finset.univ fun s : Fin 4 => both (back x c) h s)) :=
  wp_each c 4 (fun _ => iprop(records x K ∗ levAts L lv ∗ ow c 128)) (fun s => both (flying c) h s) (fun s => both (back x c) h s) _
    fun s => wp_waitSeg x K c h s

theorem wp_waits (c : Dev nD) :
    iprop((records x K ∗ levAts L lv ∗ ow c 128) ∗ bigSep Finset.univ (flying (F := F) c))
      ⊢ wp frame (wpE (defs₀ (F := F)) 𝒱₀ (c : Thread nD τ) none) Set.univ
          (each 15 fun h => each 4 fun s => do
            sent (B false) (hB false) (sndA false) h s
            sent (B true) (hB true) (sndA true) h s)
          (fun _ => iprop((records x K ∗ levAts L lv ∗ ow c 128) ∗ bigSep Finset.univ (back x c))) := by
  rw [ed_hops (flying c), ed_hops (back x c)]
  have h := wp_each c 15 (fun _ => iprop(records x K ∗ levAts L lv ∗ ow c 128)) (fun h => bigSep Finset.univ fun s : Fin 4 => both (flying c) h s)
    (fun h => bigSep Finset.univ fun s : Fin 4 => both (back x c) h s)
    (fun h => each 4 fun s => do
            sent (B false) (hB false) (sndA false) h s
            sent (B true) (hB true) (sndA true) h s) (fun h => wp_waitHop x K c h)
  refine Eq.mp ?_ h
  congr 1

end Cert.KernelIdeal.Ring

end
-- ==== Proof.Body.lean ====
/-
  The whole body on a device, from what the launch deals it to the finished result block.
-/
module

public import proofs.«01_k».proof.Proof.Parts

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → Vec F S256x4096 .bf16) (K : Dev nD × CI → ℕ)

/-! ## What a device is dealt -/

/-- A device's tokens for a transfer: its send cell's duty, and the duty of the receive cell it lands on. -/
def toks (c : Dev nD) (e : Ed) : sProp 𝕄 := iprop(dutyTok ER (sndCell c e) 0 false ∗ dutyTok ER (rcvCell (nb e.1 c) e) 0 false)

/-- A device's positions and tokens. -/
def ghost (c : Dev nD) : sProp 𝕄 :=
  iprop(records x K ∗ atPos ER (barCell c) 0 ∅ 0 ∗ (bigSep Finset.univ fun e : Ed => atPos ER (sndCell c e) 0 ∅ 0)
    ∗ (bigSep Finset.univ fun e : Ed => atPos ER (rcvCell c e) 0 ∅ 0) ∗ barToks c ∗ bigSep Finset.univ fun e : Ed => toks (F := F) c e)
/-- Its credits. -/
def credits (c : Dev nD) : sProp 𝕄 :=
  iprop(cred (tallyAt (barCell c) () 2) ∗ bigSep Finset.univ fun e : Ed => cred (tallyAt (rcvCell c e) () (N e.1)))

/-- A gather buffer, whatever it holds. -/
def buf (c : Dev nD) (d : Bool) : sProp 𝕄 :=
  iprop(∃ g : Buf (Elt F) ((B d).view.loc (c : Thread nD τ)), ((B d).view.loc (c : Thread nD τ) ↦[(B d).view.set]{fullShare} g))

theorem buf_open (c : Dev nD) (d : Bool) : buf (F := F) c d ⊢ iprop(slot0 c d ∗ free c d) := by
  unfold buf slot0 free
  iintro ⟨%g, H⟩
  ihave H := (buf_split (B d) c g) $$ H
  icases H with ⟨H0, H1⟩
  isplitl [H0]; · iexists g; iexact H0
  iexact H1

/-- All the counters at zero again. -/
def zeros (c : Dev nD) : sProp 𝕄 :=
  iprop(semVal (barCell c) 0 ∗ (bigSep Finset.univ fun e : Ed => semVal (sndCell c e) 0) ∗ bigSep Finset.univ fun e : Ed => semVal (rcvCell c e) 0)

/-! ## The whole -/

theorem takes_intro (c : Dev nD) :
    iprop((bigSep Finset.univ fun e : Ed => inn c e) ∗ bigSep Finset.univ fun e : Ed => nxt (out c) e) ⊢ (bigSep Finset.univ (takes (F := F) c) : sProp 𝕄) := by
  rw [← bigSep_sep', ed_hops]
  exact Entails.of_eq rfl

theorem leaves_elim (c : Dev nD) :
    (bigSep Finset.univ (leaves x c) : sProp 𝕄) ⊢ iprop((bigSep Finset.univ fun e : Ed => semVal (rcvCell c e) 0) ∗ (bigSep Finset.univ fun e : Ed => nxt (flown c) e)
      ∗ bigSep Finset.univ fun e : Ed => sg c e.1 (hi e.2.1) e.2.2 (qOf (hi e.2.1)) (X x c e.1 (hi e.2.1) e.2.2)) := by
  rw [← bigSep_sep', ← bigSep_sep', ed_hops]
  exact Entails.of_eq rfl

theorem wp_hops (c : Dev nD) (w : Vec F S4096x512 .bf16) :
    iprop(((records x K ∗ levAts L lv ∗ ow c (8 * (0 + 1))) ∗ keep x c w 0) ∗ bigSep Finset.univ (takes c))
      ⊢ wp frame (wpE (defs₀ (F := F)) 𝒱₀ (c : Thread nD τ) none) Set.univ
          (each 15 fun h => hop wM oM (B false) (hB false) (B true) (hB true) (sndA false) (rcvA false) (sndA true) (rcvA true) c h)
          (fun _ => iprop(((records x K ∗ levAts L lv ∗ ow c (8 * (15 + 1))) ∗ keep x c w 15) ∗ bigSep Finset.univ (leaves x c))) := by
  have h := wp_each c 15 (fun h => iprop((records x K ∗ levAts L lv ∗ ow c (8 * (h + 1))) ∗ keep x c w h)) (takes c) (leaves x c)
    (fun h => hop wM oM (B false) (hB false) (B true) (hB true) (sndA false) (rcvA false) (sndA true) (rcvA true) c h) fun h => wp_hop x K c w h
  refine Eq.mp ?_ h
  congr 1

theorem keep_end (c : Dev nD) (w : Vec F S4096x512 .bf16) : keep x c w 15 ⊢ iprop(wPts c w ∗ oPts c (outAt x w c)) := by
  unfold keep
  iintro ⟨Hw, %f, %hf, Ho⟩
  have e : f = outAt x w c := funext fun i => hf i (done_all c i)
  subst e
  isplitl [Hw]; · iexact Hw
  iexact Ho

theorem bufs_end (c : Dev nD) :
    iprop((bigSep Finset.univ fun s : Fin 4 => sg c false 0 s fullShare.right (X x c false 0 s))
        ∗ (bigSep Finset.univ fun s : Fin 4 => sg c true 0 s fullShare.right (X x c true 0 s))
        ∗ (bigSep Finset.univ fun e : Ed => sg c e.1 (hi e.2.1) e.2.2 (qOf (hi e.2.1)) (X x c e.1 (hi e.2.1) e.2.2))
        ∗ bigSep Finset.univ fun e : Ed => sg c e.1 (lo e.2.1) e.2.2 fullShare.left (X x c e.1 (lo e.2.1) e.2.2))
      ⊢ (iprop(buf (F := F) c false ∗ buf c true) : sProp 𝕄) := by
  rw [bigSep_univ_prod (fun e : Ed => (sg c e.1 (hi e.2.1) e.2.2 (qOf (hi e.2.1)) (X x c e.1 (hi e.2.1) e.2.2) : sProp 𝕄)), bigSep_bool,
    bigSep_univ_prod (fun e : Ed => (sg c e.1 (lo e.2.1) e.2.2 fullShare.left (X x c e.1 (lo e.2.1) e.2.2) : sProp 𝕄)), bigSep_bool]
  dsimp only
  iintro ⟨H0, H1, ⟨Hr0, Hr1⟩, Hl0, Hl1⟩
  isplitl [H0 Hr0 Hl0]
  · unfold buf
    iapply (buf_back x c false)
    isplitl [H0]; · iexact H0
    isplitl [Hr0]; · iexact Hr0
    iexact Hl0
  · unfold buf
    iapply (buf_back x c true)
    isplitl [H1]; · iexact H1
    isplitl [Hr1]; · iexact Hr1
    iexact Hl1

theorem wp_body (c : Dev nD) (w : Vec F S4096x512 .bf16) :
    iprop((ghost x K c ∗ credits (F := F) c ∗ levAts L lv) ∗ (∃ W, owes (c : Thread nD τ) (O₀ c) W)
        ∗ (buf (F := F) c false ∗ buf (F := F) c true) ∗ xPts c (x c) ∗ wPts c w ∗ ∃ f, oPts c f)
      ⊢ wp frame (wpE (defs₀ (F := F)) 𝒱₀ (c : Thread nD τ) none) Set.univ
          (body xM wM oM (B false) (hB false) (B true) (hB true) (sndA false) (rcvA false) (sndA true) (rcvA true))
          (fun _ => iprop((∃ W, owes (c : Thread nD τ) 0 W) ∗ zeros (F := F) c ∗ (buf (F := F) c false ∗ buf (F := F) c true)
            ∗ xPts c (x c) ∗ wPts c w ∗ oPts c (outAt x w c))) := by
  unfold body
  simp only [Prog.lift, Prog.bind_op, Prog.bind_ret, wp_deviceId]
  simp only [wp_bind]
  unfold ghost credits
  iintro ⟨⟨⟨#HK, HatB, HatS, HatR, HtB, Ht⟩, ⟨HcB, HcR⟩, #Hlev⟩, HO, ⟨Hb0, Hb1⟩, Hx, Hw, Ho⟩
  ihave H0 := (buf_open c false) $$ Hb0
  icases H0 with ⟨Hz0, Hf0⟩
  ihave H1 := (buf_open c true) $$ Hb1
  icases H1 with ⟨Hz1, Hf1⟩
  iapply (run c (wp_handshake x K c)) $$ [HO HatB HcB HtB Hf0 Hf1]
  · isplitr; · iexact HK
    isplitr; · iexact Hlev
    isplitl [HO]; · iexact HO
    isplitl [HatB]; · iexact HatB
    isplitl [HcB]; · iexact HcB
    isplitl [HtB]; · iexact HtB
    isplitl [Hf0]; · iexact Hf0
    iexact Hf1
  iintro ⟨HO, HvB, Hd⟩
  iapply (run c (wp_fill x c)) $$ [Hx Hz0 Hz1]
  · isplitl [Hx]; · iexact Hx
    isplitl [Hz0]; · iexact Hz0
    iexact Hz1
  unfold own0
  iintro ⟨Hx, Hs0, Hs1⟩
  have hout : (iprop((bigSep Finset.univ fun e : Ed => dst c e) ∗ bigSep Finset.univ fun e : Ed => toks (F := F) c e) : sProp 𝕄)
      ⊢ iprop((bigSep Finset.univ fun s : Fin 4 => both (out c) 0 s) ∗ bigSep Finset.univ fun e : Ed => nxt (out c) e) := by
    rw [← bigSep_sep', ← ed_next (out c)]
    exact Entails.of_eq rfl
  ihave Hout := hout $$ [Hd Ht]
  · isplitl [Hd]; · iexact Hd
    iexact Ht
  icases Hout with ⟨Hout0, Hout⟩
  have hs := wp_starts x K c
  rw [bigSep_sep', bigSep_sep', bigSep_sep', bigSep_sep'] at hs
  iapply (run c hs) $$ [HO Hs0 Hs1 Hout0]
  · isplitl [HO]
    · isplitr; · iexact HK
      iexact HO
    isplitl [Hs0 Hs1]
    · isplitl [Hs0]; · iexact Hs0
      iexact Hs1
    iexact Hout0
  iintro ⟨⟨-, HO⟩, ⟨Hs0, Hs1⟩, Hfl0⟩
  iapply (run c (wp_ownDot x c w)) $$ [Hx Hw Ho]
  · isplitl [Hx]; · iexact Hx
    isplitl [Hw]; · iexact Hw
    iexact Ho
  iintro ⟨Hx, Hkeep⟩
  have hinn : (iprop((bigSep Finset.univ fun e : Ed => atPos ER (rcvCell c e) 0 ∅ 0) ∗ bigSep Finset.univ fun e : Ed => cred (tallyAt (rcvCell c e) () (N e.1))) : sProp 𝕄)
      ⊢ bigSep Finset.univ fun e : Ed => inn c e := by
    rw [← bigSep_sep']
    exact Entails.of_eq rfl
  ihave Hinn := hinn $$ [HatR HcR]
  · isplitl [HatR]; · iexact HatR
    iexact HcR
  ihave Ht := (takes_intro c) $$ [Hinn Hout]
  · isplitl [Hinn]; · iexact Hinn
    iexact Hout
  iapply (run c (wp_hops x K c w)) $$ [HO Hkeep Ht]
  · isplitl [HO Hkeep]
    · isplitl [HO]
      · isplitr; · iexact HK
        isplitr; · iexact Hlev
        iexact HO
      iexact Hkeep
    iexact Ht
  iintro ⟨⟨⟨-, -, HO⟩, Hkeep⟩, Hl⟩
  ihave Hl := (leaves_elim x c) $$ Hl
  icases Hl with ⟨HzR, Hfl, Hsh⟩
  have hfl : (iprop(((bigSep Finset.univ fun s : Fin 4 => both (flown c) 0 s) ∗ bigSep Finset.univ fun e : Ed => nxt (flown c) e)
      ∗ bigSep Finset.univ fun e : Ed => atPos ER (sndCell c e) 0 ∅ 0) : sProp 𝕄) ⊢ bigSep Finset.univ (flying c) := by
    rw [← ed_next (flown c), ← bigSep_sep']
    exact Entails.of_eq rfl
  ihave Hfl := hfl $$ [Hfl0 Hfl HatS]
  · isplitl [Hfl0 Hfl]
    · isplitl [Hfl0]; · iexact Hfl0
      iexact Hfl
    iexact HatS
  iapply (run c (wp_waits x K c)) $$ [HO Hfl]
  · isplitl [HO]
    · isplitr; · iexact HK
      isplitr; · iexact Hlev
      iexact HO
    iexact Hfl
  iintro ⟨⟨-, -, HO⟩, Hbk⟩
  have hbk : (bigSep Finset.univ (back x c) : sProp 𝕄) ⊢ iprop((bigSep Finset.univ fun e : Ed => semVal (sndCell c e) 0)
      ∗ bigSep Finset.univ fun e : Ed => sg c e.1 (lo e.2.1) e.2.2 fullShare.left (X x c e.1 (lo e.2.1) e.2.2)) := by
    rw [← bigSep_sep']
    exact Entails.of_eq rfl
  ihave Hbk := hbk $$ Hbk
  icases Hbk with ⟨HzS, Hsl⟩
  ihave Hb := (bufs_end x c) $$ [Hs0 Hs1 Hsh Hsl]
  · isplitl [Hs0]; · iexact Hs0
    isplitl [Hs1]; · iexact Hs1
    isplitl [Hsh]; · iexact Hsh
    iexact Hsl
  ihave Hkeep := (keep_end x c w) $$ Hkeep
  icases Hkeep with ⟨Hw, Ho⟩
  unfold ow zeros
  rw [rest_end c (show 120 ≤ 128 by decide)]
  isplitl [HO]; · iexact HO
  isplitl [HvB HzS HzR]
  · isplitl [HvB]; · iexact HvB
    isplitl [HzS]; · iexact HzS
    iexact HzR
  isplitl [Hb]; · iexact Hb
  isplitl [Hx]; · iexact Hx
  isplitl [Hw]; · iexact Hw
  iexact Ho

end Cert.KernelIdeal.Ring

end
-- ==== Proof.Fund.lean ====
/-
  What the launch deals: the cells of the ring opened on all devices at once, the duties dealt to the devices that pay them,
  and the credits every device starts with.
-/
module

public import proofs.«01_k».proof.Proof.Body

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → Vec F S256x4096 .bf16) (K : Dev nD × CI → ℕ)

/-! ## The cells of a device -/

theorem bigSep_opt {I : Type} [Fintype I] [DecidableEq I] (Φ : Option I → sProp 𝕄) :
    bigSep Finset.univ Φ = iprop(Φ none ∗ bigSep Finset.univ fun k => Φ (some k)) := by
  rw [show (Finset.univ : Finset (Option I)) = insert none (Finset.univ.map Function.Embedding.some) from by
      ext o; cases o <;> simp, bigSep_insert (by simp), bigSep_map]
  rfl

/-- A family over a device's cells: the barrier's, the send cells', the receive cells'. -/
theorem bigSep_cells (Φ : CI → sProp 𝕄) :
    bigSep Finset.univ Φ = iprop(Φ none ∗ (bigSep Finset.univ fun e : Ed => Φ (some (false, e))) ∗ bigSep Finset.univ fun e : Ed => Φ (some (true, e))) := by
  rw [bigSep_opt, bigSep_univ_prod, bigSep_bool]

/-- The semaphores of the kernel's own: all but the barrier's. -/
abbrev osem (k : Bool × Ed) : SemLoc sig := csem (some k)

theorem osem_inj : Function.Injective osem := fun _ _ h => Option.some.inj (csem_inj h)

theorem ownSemFacts : Pipeline.OwnSemFacts cfg0.spec osem where
  isScoped := by
    have h : ∀ q : DmaSem sig, 3 ≤ q.val → SemLoc.isScoped Kind.tc (.dma q : SemLoc sig) = true := by decide
    rintro ⟨_ | _, e⟩
    · exact h _ (by rw [sndS_val]; unfold sndN; split <;> omega)
    · exact h _ (by rw [rcvS_val]; unfold rcvN; split <;> omega)
  inj := osem_inj
  disj k w s h := by
    have hv : ∀ w s, ((cfg0.spec w).sem s).val < 3 := by decide
    have := hv w s
    rcases k with ⟨_ | _, e⟩
    · have h' := congrArg Fin.val (SemLoc.dma.inj h)
      rw [sndS_val] at h'
      unfold sndN at h'; split at h' <;> omega
    · have h' := congrArg Fin.val (SemLoc.dma.inj h)
      rw [rcvS_val] at h'
      unfold rcvN at h'; split at h' <;> omega

theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's counters, as the launch hands them and as the exit wants them. -/
theorem zeros_eq (c : Dev nD) :
    zeros (F := F) c = iprop(unscopedSems0 c ∗ Pipeline.ownSems0 (Ix := Unit) (Name := ℕ) (U := UU) (Lvl := ℕ) (Val := Elt F) (τ := τ) osem c) := by
  unfold zeros Pipeline.ownSems0
  rw [unscopedSems0_eq, bigSep_univ_prod (fun k : Bool × Ed => (semVal ((c : Thread nD τ), osem k) 0 : sProp 𝕄)), bigSep_bool]
theorem zeros_cells (c : Dev nD) : zeros (F := F) c = bigSep Finset.univ fun k : CI => semVal (kcell (c, k)) 0 := by
  unfold zeros; rw [bigSep_cells]

/-! ## The launch element -/

def ringCells : Finset (GSem nD τ sig) := Finset.univ.map ⟨kcell, kcell_inj⟩

/-- A token for each name at round 0 of each cell. -/
abbrev tokOf (t : (Dev nD × CI) × Bool) : GSem nD τ sig × ℕ × Bool := (kcell t.1, 0, t.2)
theorem tokOf_inj : Function.Injective tokOf := fun _ _ h =>
  Prod.ext (kcell_inj (congrArg Prod.fst h)) (congrArg (fun y : GSem nD τ sig × ℕ × Bool => y.2.2) h)
def ringToks : Finset (GSem nD τ sig × ℕ × Bool) := Finset.univ.map ⟨tokOf, tokOf_inj⟩

def u₀ : UU := (initOf (Pipeline.cells cfgs cellOf_inj) (Pipeline.launchToks cfgs cellOf_inj), initOf ringCells ringToks)

/-- The tokens of a device's own cells. -/
def minted (c : Dev nD) : sProp 𝕄 := bigSep Finset.univ fun k : CI => bigSep Finset.univ fun d : Bool => dutyTok ER (kcell (c, k)) 0 d

/-- What the launch element deals a device. -/
def G (c : Dev nD) : sProp 𝕄 :=
  iprop((bigSep Finset.univ fun k : CI => roundState ER (ringRd x) (kcell (c, k)) 0)
    ∗ (bigSep Finset.univ fun k : CI => iprop(atPos ER (kcell (c, k)) 0 ∅ 0 ∗ reached ER (kcell (c, k)) 0)) ∗ minted c)
/-- What the opening of the cells makes of it. -/
def G' (c : Dev nD) : sProp 𝕄 := iprop(∃ K, ghost x K c)

theorem fund_ring : BI.own (ER (initOf ringCells ringToks)) ⊢ (|==> bigSep Finset.univ (G x) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun y => (dutyTok ER y.1 y.2.1 y.2.2 : sProp 𝕄)) = bigSep Finset.univ fun c : Dev nD => minted c := by
    unfold ringToks minted; rw [bigSep_map, bigSep_univ_prod, bigSep_univ_prod]; rfl
  iintro HX
  imod (Rounds.fund ER (ringRd x) ringCells ringToks) $$ HX with ⟨Hst, Hr, Hat, Htok⟩
  imodintro
  ihave Hst' := (Entails.of_eq (hX fun g => roundState ER (ringRd x) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells opened -/

theorem core_alloc (c : Dev nD) :
    iprop(Pipeline.ownSems0 (Ix := Unit) (Name := ℕ) (U := UU) (Lvl := ℕ) (Val := Elt F) (τ := τ) osem c ∗ unscopedSems0 c ∗ G x c)
      ⊢ |={Set.univ}=> iprop((bigSep Finset.univ fun k => iprop(∃ κ : ℕ, cellInv ER (ringRd x) κ (kcell (c, k))))
          ∗ (bigSep Finset.univ fun k => iprop(atPos ER (kcell (c, k)) 0 ∅ 0 ∗ reached ER (kcell (c, k)) 0)) ∗ minted c) := by
  unfold G
  iintro ⟨Hos, Hus, Hst, Hat, Htok⟩
  ihave Hv := (Entails.of_eq ((zeros_eq (F := F) c).symm.trans (zeros_cells c))) $$ [Hos Hus]
  · isplitl [Hus]; · iexact Hus
    iexact Hos
  imod (show iprop((bigSep Finset.univ fun k : CI => semVal (kcell (c, k)) 0) ∗ bigSep Finset.univ fun k : CI => roundState ER (ringRd x) (kcell (c, k)) 0)
      ⊢ (|={Set.univ}=> bigSep Finset.univ fun k => iprop(∃ κ : ℕ, cellInv ER (ringRd x) κ (kcell (c, k))) : sProp 𝕄) from by
        rw [← bigSep_sep']
        exact (bigSep_mono fun k _ => (Rounds.body_intro ER (ringRd x) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What stays with a device: its positions and the tokens of the duties it pays. -/
def dealt (c : Dev nD) : sProp 𝕄 := iprop(barToks (F := F) c ∗ bigSep Finset.univ fun e : Ed => toks (F := F) c e)

theorem ghost_intro (c : Dev nD) : iprop(records x K ∗ (bigSep Finset.univ fun k : CI => atPos ER (kcell (c, k)) 0 ∅ 0) ∗ dealt (F := F) c) ⊢ G' x c := by
  unfold G' ghost dealt
  rw [bigSep_cells]
  iintro ⟨#HK, ⟨HB, HS, HR⟩, Hb, Ht⟩
  iexists K
  isplitr; · iexact HK
  isplitl [HB]; · iexact HB
  isplitl [HS]; · iexact HS
  isplitl [HR]; · iexact HR
  isplitl [Hb]; · iexact Hb
  iexact Ht

/-- A device's own tokens that are any device's duty. -/
def due (c : Dev nD) : sProp 𝕄 :=
  iprop((dutyTok ER (barCell c) 0 false ∗ dutyTok ER (barCell c) 0 true) ∗ (bigSep Finset.univ fun e : Ed => dutyTok ER (sndCell c e) 0 false)
    ∗ bigSep Finset.univ fun e : Ed => dutyTok ER (rcvCell c e) 0 false)
theorem minted_due (c : Dev nD) : minted (F := F) c ⊢ due c := by
  unfold minted due
  rw [bigSep_cells, bigSep_bool]
  refine sep_mono_right (BI.sep_mono (bigSep_mono fun e _ => ?_) (bigSep_mono fun e _ => ?_)) <;>
  · rw [bigSep_bool]
    show (iprop(_ ∗ _) : sProp 𝕄) ⊢ _
    iintro ⟨H, -⟩
    iexact H

/-- The receive tokens dealt to the devices whose transfers land there. -/
theorem rcv_around : (bigSep Finset.univ fun c : Dev nD => bigSep Finset.univ fun e : Ed => (dutyTok ER (rcvCell c e) 0 false : sProp 𝕄))
    = bigSep Finset.univ fun c : Dev nD => bigSep Finset.univ fun e : Ed => dutyTok ER (rcvCell (nb e.1 c) e) 0 false := by
  rw [bigSep_univ_comm, bigSep_univ_comm (fun (c : Dev nD) (e : Ed) => (dutyTok ER (rcvCell (nb e.1 c) e) 0 false : sProp 𝕄))]
  exact bigSep_congr fun e _ => bigSep_univ_equiv (turn e.1) (fun c : Dev nD => (dutyTok ER (rcvCell c e) 0 false : sProp 𝕄))

theorem toks_around : (bigSep Finset.univ fun c : Dev nD => (minted c : sProp 𝕄)) ⊢ bigSep Finset.univ fun c : Dev nD => dealt c := by
  refine (bigSep_mono fun c _ => minted_due c).trans ?_
  unfold due dealt barToks toks
  simp only [bigSep_sep']
  rw [rcv_around, bigSep_univ_equiv (turn true) (fun c : Dev nD => (dutyTok ER (barCell c) 0 false : sProp 𝕄)),
    bigSep_univ_equiv (turn false) (fun c : Dev nD => (dutyTok ER (barCell c) 0 true : sProp 𝕄))]
  show (iprop(_ ∗ _) : sProp 𝕄) ⊢ _
  iintro ⟨⟨H1, H2⟩, H3, H4⟩
  isplitl [H1 H2]
  · isplitl [H1]; · iexact H1
    iexact H2
  isplitl [H3]; · iexact H3
  iexact H4

theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd x) κ (kcell (c, k))))
          ∗ (bigSep Finset.univ fun k => iprop(atPos ER (kcell (c, k)) 0 ∅ 0 ∗ reached ER (kcell (c, k)) 0)) ∗ minted c) : sProp 𝕄)
      ⊢ bigSep Finset.univ (G' x) := by
  rw [bigSep_sep', bigSep_sep', ← bigSep_univ_prod (fun ck : Dev nD × CI => iprop(∃ κ : ℕ, cellInv ER (ringRd x) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (ringRd x) κ (kcell ck) : sProp 𝕄))) $$ HI
  icases HK with ⟨%K, #HI⟩
  ihave Htk := (toks_around (F := F)) $$ Htok
  iapply (bigSep_beside (R := records x K) fun c _ => ghost_intro x K c)
  isplitr
  · unfold records; isplitl; · iexact HI
    iexact HR
  · rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G x c) : sProp 𝕄)
    ⊢ |={Set.univ}=> bigSep Finset.univ (G' x) :=
  ((bigSep_mono fun c _ => core_alloc x c).trans (bigSep_fupd _ _)).trans (BI.fupd_mono (regroup x))

/-! ## The credits -/

theorem cell_dev {a b : Dev nD} {s t : SemLoc sig} (h : (((a : Thread nD τ), s) : GSem nD τ sig) = ((b : Thread nD τ), t)) : a = b :=
  congrArg (fun g : GSem nD τ sig => g.1.1) h
theorem bar_iff (c a : Dev nD) : barCell c = barCell a ∧ () = () ↔ c = a := ⟨fun h => cell_dev h.1, fun h => ⟨by rw [h], rfl⟩⟩
theorem rcv_iff (c a : Dev nD) (e : Ed) : rcvCell c e = rcvCell a e ∧ () = () ↔ c = a := ⟨fun h => cell_dev h.1, fun h => ⟨by rw [h], rfl⟩⟩
theorem rcv_inj {c a : Dev nD} {e e' : Ed} (h : rcvCell c e = rcvCell a e') : e = e' := rcvS_inj (SemLoc.dma.inj (congrArg Prod.snd h))
theorem rcv_ne_bar (c c' : Dev nD) (e : Ed) : rcvCell c e ≠ barCell c' := fun h => by
  have := congrArg Prod.snd h; cases this
theorem nb_eq_iff (d : Bool) (a c : Dev nD) : c = nb d a ↔ a = nb (!d) c :=
  ⟨fun h => by rw [h, nb_nb'], fun h => by rw [h, nb_nb]⟩

/-- What device `d` owes a cell of device `c` is a sum over the ring that one device answers. -/
theorem sum_at (b : Bool) (c : Dev nD) (n : ℕ) : (∑ a : Dev nD, if c = nb b a then n else 0) = n := by
  rw [Finset.sum_congr rfl fun a _ => if_congr (nb_eq_iff b a c) rfl rfl, Finset.sum_ite_eq' Finset.univ (nb (!b) c) fun _ => n, if_pos (Finset.mem_univ _)]

theorem owed_bar (a c : Dev nD) : O₀ a (barCell c) () = (if c = nb false a then 1 else 0) + (if c = nb true a then 1 else 0) := by
  unfold O₀ O₁
  have h0 : rest a 0 (barCell c) () = 0 := by
    by_contra h
    obtain ⟨e, -, he⟩ := rest_pos (Nat.pos_of_ne_zero h)
    exact rcv_ne_bar _ _ _ he.symm
  rw [Pi.add_apply, Finsupp.add_apply, Pi.add_apply, Finsupp.add_apply, h0, tallyAt_apply, tallyAt_apply, Nat.zero_add]
  rw [if_congr (bar_iff c (nb false a)) rfl rfl, if_congr (bar_iff c (nb true a)) rfl rfl]

theorem owed_rcv (a c : Dev nD) (e : Ed) : O₀ a (rcvCell c e) () = if c = nb e.1 a then N e.1 else 0 := by
  unfold O₀ O₁ rest
  rw [Pi.add_apply, Finsupp.add_apply, Pi.add_apply, Finsupp.add_apply, tallyAt_ne_cell (rcv_ne_bar _ _ _), tallyAt_ne_cell (rcv_ne_bar _ _ _),
    Finsupp.zero_apply, Nat.add_zero, Nat.add_zero, Finset.sum_apply, Finsupp.finset_sum_apply,
    Finset.sum_eq_single e]
  · rw [tallyAt_apply]
    exact if_congr (rcv_iff c (nb e.1 a) e) rfl rfl
  · intro e' _ hne
    rw [tallyAt_apply]
    exact if_neg fun h => hne (rcv_inj h.1).symm
  · intro h
    exact absurd (Finset.mem_filter.mpr ⟨Finset.mem_univ e, Nat.zero_le (pos e)⟩) h

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun a _ => owed_bar a c, Finset.sum_add_distrib, sum_at, sum_at]

theorem launch_rcv (c : Dev nD) (e : Ed) :
    tallyOn (rcvCell c e) (launchCredit (Pipeline.owing O₀) 0 (rcvCell c e)) = (tallyAt (rcvCell c e) () (N e.1) : CellTallies nD τ sig Unit) := by
  unfold tallyAt; refine congrArg _ (Finsupp.ext fun u => ?_); cases u
  rw [Pipeline.launchCredit_owing, Finsupp.single_eq_same, Finset.sum_congr rfl fun a _ => owed_rcv a c e, sum_at]

theorem creds (c : Dev nD) : (Pipeline.launchCred O₀ c : sProp 𝕄) ⊢ credits c := by
  unfold Pipeline.launchCred credits
  refine (bigSep_subset (Finset.subset_univ (Finset.univ.map ⟨csem, csem_inj⟩))).trans ?_
  rw [bigSep_map, bigSep_cells]
  show (iprop(_ ∗ _) : sProp 𝕄) ⊢ _
  iintro ⟨HB, -, H⟩
  isplitl [HB]
  · iapply (Entails.of_eq (congrArg (fun t => (cred t : sProp 𝕄)) (launch_bar c)))
    iexact HB
  · have h : (bigSep Finset.univ fun e : Ed => cred (tallyOn (rcvCell c e) (launchCredit (Pipeline.owing O₀) 0 (rcvCell c e))) : sProp 𝕄)
        ⊢ bigSep Finset.univ fun e : Ed => cred (tallyAt (rcvCell c e) () (N e.1)) :=
      bigSep_mono fun e _ => Entails.of_eq (congrArg (fun t => (cred t : sProp 𝕄)) (launch_rcv c e))
    iapply h
    iexact H

end Cert.KernelIdeal.Ring

end
-- ==== Proof.BodyEq.lean ====
/-
  The printed body is the structured program of `Prog.lean`.
-/
module

public import proofs.«01_k».proof.Proof.Prog
public import Idealize.ShloMosaic.Lib.Tactic

@[expose] public section

noncomputable section

namespace Cert.KernelIdeal.Ring

open Cert.KernelIdeal Cert.KernelIdeal.Gen
open Idealize.ShloMosaic Idealize.SL.Sem

variable {F : FTy → Type} [FloatOps F]

/-- The printed body is this program. -/
theorem body_eq (a0 : Memref sig .tc .vmem S256x4096 .bf16) (h0 : a0.IsWhole) (a1 : Memref sig .tc .vmem S4096x512 .bf16) (h1 : a1.IsWhole)
    (a2 : Memref sig .tc .vmem S4096x512 .f32) (h2 : a2.IsWhole) (a3 : Memref sig .tc .vmem S16x128x4096 .bf16) (h3 : a3.IsWhole)
    (a4 : Memref sig .tc .vmem S16x128x4096 .bf16) (h4 : a4.IsWhole) (a5 a6 a7 a8 : DmaSems sig S15x4) :
    cc0_body (F := F) a0 h0 a1 h1 a2 h2 a3 h3 a4 h4 a5 a6 a7 a8 = body a0 a1 a2 a3 h3 a4 h4 a5 a6 a7 a8 :=
  by sl_kernel_rfl

end Cert.KernelIdeal.Ring

end
-- ==== Proof.Run.lean ====
/-
  The run of the program: the launch assembled from the body and the funding. Every execution ends with each result block at
  `outAt`, the arguments as they were and every counter at zero.
-/
module

public import proofs.«01_k».proof.Proof.Fund
public import proofs.«01_k».proof.Proof.BodyEq
public import Idealize.ShloMosaic.Lib.Pipeline.CollectiveSegs

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- A device's row block of `x`, and its column block of the weights, as the pipeline stages them. -/
def xstg (c : Dev nD) : Vec F S256x4096 .bf16 := (win0_0.blk (0 : Fin 1)).view.read (Elt F) (m ((c : Thread nD τ).loc main_arg0))
def wstg (c : Dev nD) : Vec F S4096x512 .bf16 := (win0_1.blk (0 : Fin 1)).view.read (Elt F) (m ((c : Thread nD τ).loc main_arg1))

/-- What a device's body starts from besides its buffers. -/
def begins (c : Dev nD) : sProp 𝕄 := iprop((∃ K, ghost (xstg m) K c) ∗ credits (F := F) c ∗ levAts L lv)
/-- Before the point, and after. -/
def Φ₀ (c : Dev nD) : sProp 𝕄 := iprop(begins m c ∗ buf (F := F) c false ∗ buf (F := F) c true)
def Φ₁ (c : Dev nD) : sProp 𝕄 := iprop(zeros (F := F) c ∗ buf (F := F) c false ∗ buf (F := F) c true)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wstg m c
    | ⟨2, _⟩ => outAt (xstg m) (wstg m c) c
  Φ t := match t with
    | ⟨0, _⟩ => Φ₀ m c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 3) ∗ Φ (1 : Fin 3) ∗ Φ (2 : Fin 3)) := bigSep_W0 Φ

theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

/-- A staging buffer held at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-! ## The body's obligation -/

def bodyPre (c : Dev nD) : sProp 𝕄 :=
  iprop(Φ₀ m c ∗ (dats m 0 c).owesAt () t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))

def bodyPost (c : Dev nD) : sProp 𝕄 :=
  iprop(Φ₁ c ∗ (dats m 0 c).owesAt () t₀.succ ∗ stg c cc0_stg0_0 (xstg m c) ∗ stg c cc0_stg1_0 (wstg m c)
    ∗ stg c cc0_stg2_0 (outAt (xstg m) (wstg m c) c))

theorem bodyPre_open (c : Dev nD) : bodyPre m c ⊢ iprop(∃ K, (ghost (xstg m) K c ∗ credits (F := F) c ∗ levAts L lv) ∗ (∃ W, owes (c : Thread nD τ) (O₀ c) W)
        ∗ (buf (F := F) c false ∗ buf (F := F) c true) ∗ xPts c (xstg m c) ∗ wPts c (wstg m c) ∗ ∃ f, oPts c f) := by
  unfold bodyPre Φ₀ begins
  iintro ⟨⟨⟨⟨%K, Hg⟩, Hcr, Hlev⟩, Hb⟩, Ho, ⟨%d0, %g0, %hg0, Hx⟩, ⟨%d1, %g1, %hg1, Hw⟩, ⟨%d2, %g2, %hg2, Hout⟩⟩
  have hx : g0 = xstg m c := by rw [hg0]; unfold Dat.before; rw [if_pos (fetch_0 t₀)]; rfl
  have hw : g1 = wstg m c := by rw [hg1]; unfold Dat.before; rw [if_pos (fetch_1 t₀)]; rfl
  subst hx hw
  unfold Dat.owesAt Pipeline.owesWithin
  icases Ho with ⟨%W, %hW, HO⟩
  rw [show (dats m 0 c).owed t₀.castSucc = O₀ c from rfl]
  iexists K
  isplitl [Hg Hcr Hlev]
  · isplitl [Hg]; · iexact Hg
    isplitl [Hcr]; · iexact Hcr
    iexact Hlev
  isplitl [HO]; · iexists W; iexact HO
  isplitl [Hb]; · iexact Hb
  unfold xPts wPts oPts
  isplitl [Hx]; · iexact Hx
  isplitl [Hw]; · iexact Hw
  iexists g2; iexact Hout

theorem bodyPost_close (c : Dev nD) :
    iprop((∃ W, owes (c : Thread nD τ) 0 W) ∗ zeros (F := F) c ∗ (buf (F := F) c false ∗ buf (F := F) c true)
        ∗ xPts c (xstg m c) ∗ wPts c (wstg m c) ∗ oPts c (outAt (xstg m) (wstg m c) c)) ⊢ bodyPost m c := by
  unfold bodyPost Φ₁ Dat.owesAt Pipeline.owesWithin xPts wPts oPts
  rw [show (dats m 0 c).owed t₀.succ = 0 from rfl]
  iintro ⟨⟨%W, HO⟩, Hz, Hb, Hx, Hw, Hout⟩
  isplitl [Hz Hb]
  · isplitl [Hz]; · iexact Hz
    iexact Hb
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

theorem body_run (c : Dev nD) :
    bodyPre m c ⊢ wp frame (wpE (defs₀ (F := F)) 𝒱₀ (c : Thread nD τ) none) Set.univ
      (cc0_body xM (Memref.isWhole_whole _) wM (Memref.isWhole_whole _) oM (Memref.isWhole_whole _)
        (B false) (hB false) (B true) (hB true) (sndA false) (rcvA false) (sndA true) (rcvA true)) (fun _ => bodyPost m c) := by
  rw [body_eq]
  refine (bodyPre_open m c).trans ?_
  iintro ⟨%K, H⟩
  iapply (run c (wp_body (xstg m) K c (wstg m c))) $$ H
  iintro H
  iapply (bodyPost_close m c)
  iexact H

set_option maxRecDepth 65536 in
/-- The library's obligation on the body. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre m c ⊢ wp frame (wpE (defs₀ (F := F)) 𝒱₀ (c : Thread nD τ) none) Set.univ
      (cc0_body xM (Memref.isWhole_whole _) wM (Memref.isWhole_whole _) oM (Memref.isWhole_whole _)
        (B false) (hB false) (B true) (hB true) (sndA false) (rcvA false) (sndA true) (rcvA true)) (fun _ => bodyPost m c)
  exact body_run m c

/-! ## The launch -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xstg m) c)
      ⊢ |={Set.univ}=> iprop(begins m c ∗ emp) := by
  iintro ⟨-, Hlev, Hcr, -, HG⟩
  ihave Hc := (creds (F := F) c) $$ Hcr
  imodintro
  unfold begins G'
  isplitl
  · isplitl [HG]; · iexact HG
    isplitl [Hc]; · iexact Hc
    iexact Hlev
  · iempintro

theorem bufs_eq (c : Dev nD) :
    (iprop(buf (F := F) c false ∗ buf c true) : sProp 𝕄)
      = iprop((∃ f : Buf (Elt F) ((c : Thread nD τ).loc cc0_scratch0), ((c : Thread nD τ).loc cc0_scratch0) ↦{fullShare} f)
        ∗ ∃ f : Buf (Elt F) ((c : Thread nD τ).loc cc0_scratch1), ((c : Thread nD τ).loc cc0_scratch1) ↦{fullShare} f) := by
  unfold buf
  simp only [Memref.view_whole, View.set_whole]

theorem phi0_intro (c : Dev nD) :
    iprop(begins m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq, ← bufs_eq]
  unfold Φ₀
  iintro ⟨Hs, -, Hb⟩
  isplitl [Hs]; · iexact Hs
  iexact Hb

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ← bufs_eq]
  unfold Φ₁
  rw [zeros_eq]
  iintro ⟨⟨Hu, Ho⟩, Hb⟩
  isplitl [Hu]; · iexact Hu
  isplitl [Ho]; · iexact Ho
  iexact Hb

/-- The staging cells are none of the ring's. -/
theorem lv_stage (c : Dev nD) (w : Fin cfg0.W) (s : Fin (cfg0.win w).nbuf) : lv ((c : Thread nD τ), .dma ((cfg0.win w).sem s)) () = 0 := by
  have h : kind ((c : Thread nD τ), .dma ((cfg0.win w).sem s)) = none := by
    unfold kind
    refine dif_neg ?_
    rintro ⟨_ | k, hk⟩
    · have := congrArg Prod.snd hk; cases this
    · exact ownSemFacts.disj k w s (congrArg Prod.snd hk)
  unfold lv; rw [h]

theorem waits (c : Dev nD) : (levAts L lv : sProp 𝕄) ⊢ Pipeline.cellsWaits cfgs (dats m) () 0 c :=
  Pipeline.cellsWaits_intro cfgs (dats m) () 0 c fun w s t =>
    mayWait_stage c _ (lv_stage c w s) _ (by
      rcases t with ⟨_ | _, ht⟩
      · exact Or.inl rfl
      · exact Or.inr rfl)

/-! ## The run -/

/-- What a device's arrays hold at the end. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 65536 in
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (xstg m)) (G' := G' (xstg m)) (u₀ := u₀)
    (hu₀ := by
      unfold u₀
      iintro Hu
      ihave H := (ownU_pair _ _) $$ Hu
      icases H with ⟨HP, HX⟩
      imod (fund_ring (xstg m)) $$ HX with HG
      imodintro
      isplitl [HP] <;> iassumption)
    (hglob := glob (xstg m))
    (hA := fun _ _ => rfl) (hpf := fun _ k => k.elim0)
    (X := begins m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_x (c : Dev nD) : finalA m c (0 : Fin 3) = m (win0_0.arr.view.loc (c : Thread nD τ)) := (dats (F := F) m 0 c).arrAt_in (0 : Fin 3) rfl _
theorem finalA_w (c : Dev nD) : finalA m c (1 : Fin 3) = m (win0_1.arr.view.loc (c : Thread nD τ)) := (dats (F := F) m 0 c).arrAt_in (1 : Fin 3) rfl _

/-- The frame: the arguments as they were, the counters at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c 0).trans (finalA_x m c), (h.1 c 1).trans (finalA_w m c)⟩, h.2⟩) (run_main m ρ)

end Cert.KernelIdeal.Ring

end
-- ==== Proof.Value.lean ====
/-
  One entry of the kernel's result over the extended reals: the silu of the product's entry.
-/
module

public import proofs.«01_k».proof.Proof.Run
public import Idealize.ShloMosaic.Lib.Pointwise
public import Idealize.ShloMosaic.Lib.IdealHost
public import Idealize.ShloMosaic.Lib.Layout
public import Idealize.ShloMosaic.Lib.Pipeline.ValueKit
public import proofs.«01_k».proof.Proof.Gen.ReferenceIdeal.Run

@[expose] public section

noncomputable section

namespace Cert.KernelIdeal.Ring

open Cert.KernelIdeal Cert.KernelIdeal.Gen
open Idealize.ShloMosaic Idealize.ShloMosaic.TcCoe Idealize.SL.Sem

/-- The silu of the problem, over the extended reals. -/
def silu (y : EReal) : EReal := Ideal.div y (1 + Ideal.exp (-y))

/-- The exponential is nowhere negative. -/
theorem exp_nonneg (y : EReal) : 0 ≤ Ideal.exp y := by
  induction y using EReal.rec with
  | bot => exact le_refl _
  | coe r => exact EReal.coe_nonneg.mpr (Real.exp_pos r).le
  | top => exact le_top

/-- The kernel multiplies by the reciprocal; the denominator is never zero. -/
theorem silu_recip (y : EReal) : y * Ideal.div 1 (1 + Ideal.exp (0 - y)) = silu y := by
  have h : (1 : EReal) + Ideal.exp (-y) ≠ 0 := by
    have h1 : (0 : EReal) < 1 + Ideal.exp (-y) := lt_of_lt_of_le zero_lt_one (le_add_of_nonneg_right (exp_nonneg _))
    exact h1.ne'
  rw [zero_sub]
  unfold silu Ideal.div
  rw [if_neg h, if_neg h, one_mul]

set_option maxRecDepth 16384 in
theorem pay3_apply (x : Vec Ideal S256x4096 .bf16) (w : Vec Ideal S4096x512 .bf16) (r : Fin 256) (l : Fin 512) :
    k0_pay3 x w (ix2 r l) = silu (∑ k : Fin 4096, x (ix2 r k) * w (ix2 k l)) := by
  rw [← silu_recip]
  pointwise [k0_pay3]

set_option maxRecDepth 16384 in
theorem pay4_apply (x : Vec Ideal S1x128x4096 .bf16) (w : Vec Ideal S4096x512 .bf16) (r : Fin 128) (l : Fin 512) :
    k0_pay4 x w (ix2 r l) = silu (∑ k : Fin 4096, x (ix3 0 r k) * w (ix2 k l)) := by
  rw [← silu_recip]
  pointwise [k0_pay4]

set_option maxRecDepth 16384 in
theorem half_top (x : Vec Ideal S256x4096 .bf16) (r : Fin 128) (k : Fin 4096) :
    half x false (ix3 0 r k) = x (ix2 ⟨r, by omega⟩ k) := by
  unfold half
  pointwise [k0_pay1]
  show x (rTop.toLoadRect.idx (ix2 r k)) = _
  exact congrArg x (idx2_ext (show 0 + 1 * r.val = r.val by omega) (show 0 + 1 * k.val = k.val by omega))

set_option maxRecDepth 16384 in
theorem half_bot (x : Vec Ideal S256x4096 .bf16) (r : Fin 128) (k : Fin 4096) :
    half x true (ix3 0 r k) = x (ix2 ⟨128 + r, by omega⟩ k) := by
  unfold half
  pointwise [k0_pay2]
  show x (rBot.toLoadRect.idx (ix2 r k)) = _
  exact congrArg x (idx2_ext (show 128 + 1 * r.val = 128 + r.val by omega) (show 0 + 1 * k.val = k.val by omega))

/-! ## The rows of a block -/

/-- A row of a half block is a row of the block. -/
theorem half_apply (x : Vec Ideal S256x4096 .bf16) (d : Bool) (r : Fin 128) (k : Fin 4096) (r' : Fin 256)
    (hr : r'.val = (if d then 128 else 0) + r.val) : half x d (ix3 0 r k) = x (ix2 r' k) := by
  cases d
  · exact (half_top x r k).trans (congrArg x (idx2_ext (by simpa using hr.symm) rfl))
  · exact (half_bot x r k).trans (congrArg x (idx2_ext (by simpa using hr.symm) rfl))

/-- An entry of a device's result: the silu of the product of a row of the block that owns it by a column of the weights. -/
theorem outAt_apply (x : Dev nD → Vec Ideal S256x4096 .bf16) (w : Vec Ideal S4096x512 .bf16) (c : Dev nD) (i : Fin 4096) (l : Fin 512) :
    outAt x w c (ix2 i l)
      = silu (∑ k : Fin 4096, x (row (ix2 i l)) (ix2 ⟨i.val % 256, Nat.mod_lt _ (by decide)⟩ k) * w (ix2 k l)) := by
  unfold outAt
  by_cases h : row (ix2 i l) = c
  · rw [if_pos h, h, show inBlk (ix2 i l) = ix2 ⟨i.val % 256, Nat.mod_lt _ (by decide)⟩ l from idx2_ext rfl rfl, pay3_apply]
  · rw [if_neg h, show inHalf (ix2 i l) = ix2 ⟨i.val % 128, Nat.mod_lt _ (by decide)⟩ l from idx2_ext rfl rfl, pay4_apply]
    refine congrArg silu (Finset.sum_congr rfl fun k _ => ?_)
    rw [half_apply]
    show i.val % 256 = (if decide (128 ≤ i.val % 256) = true then 128 else 0) + i.val % 128
    by_cases hb : 128 ≤ i.val % 256
    · rw [if_pos (decide_eq_true hb)]; omega
    · rw [if_neg (by simpa using hb)]; omega

/-! ## The reference -/

/-- The reference's result from its two arrays. -/
def refVal (X : FVec Ideal Cert.ReferenceIdeal.S4096x4096 .bf16) (W : FVec Ideal Cert.ReferenceIdeal.S4096x8192 .bf16) :
    FVec Ideal Cert.ReferenceIdeal.S4096x8192 .f32 :=
  open Cert.ReferenceIdeal Cert.ReferenceIdeal.Gen in
  Host.divf (extf .f32 (truncf .bf16 (Host.dotGeneral dot_S4096x4096_S4096x8192_S4096x8192_1_0_0_1_n_n none X W) bitsLt_bf16_f32) bitsLt_bf16_f32)
    (addf (broadcastInDim S4096x8192 ![] bcast_S_S4096x8192 (constant Cert.ReferenceIdeal.S_ .f32 0x3F800000#32))
      (Host.exp (Host.negf (extf .f32 (truncf .bf16 (Host.dotGeneral dot_S4096x4096_S4096x8192_S4096x8192_1_0_0_1_n_n none X W) bitsLt_bf16_f32) bitsLt_bf16_f32))))

set_option maxRecDepth 16384 in
theorem refVal_apply (X : FVec Ideal Cert.ReferenceIdeal.S4096x4096 .bf16) (W : FVec Ideal Cert.ReferenceIdeal.S4096x8192 .bf16)
    (i : Fin 4096) (l : Fin 8192) :
    refVal X W (ix2 i l) = silu (∑ k : Fin 4096, X (ix2 i k) * W (ix2 k l)) := by
  unfold silu
  pointwise [refVal]

/-- Device `c`'s result is its columns of the reference's. -/
theorem outAt_block (X : Vec Ideal Cert.ReferenceIdeal.S4096x4096 .bf16) (W : Vec Ideal Cert.ReferenceIdeal.S4096x8192 .bf16) (c : Dev nD) :
    outAt (fun d => Layout.block ⟨2, ![256, 4096]⟩ ⟨2, ![4096, 4096]⟩ 0 16 d X) (Layout.block ⟨2, ![4096, 512]⟩ ⟨2, ![4096, 8192]⟩ 1 16 c W) c
      = Layout.block ⟨2, ![4096, 512]⟩ ⟨2, ![4096, 8192]⟩ 1 16 c (refVal X W) := by
  funext j
  obtain ⟨i, l, rfl⟩ : ∃ (i : Fin 4096) (l : Fin 512), j = ix2 i l := ⟨j 0, j 1, eq_ix2 j⟩
  have hc : c.val < 16 := c.isLt
  have hcol : ∀ (n : ℕ) (h : Layout.Tiles ⟨2, ![n, 512]⟩ ⟨2, ![n, 8192]⟩ 1 16) (r : Fin n),
      h.idx c (ix2 r l) = ix2 r ⟨c.val * 512 + l.val, by omega⟩ := fun n h r =>
    idx2_ext ((Layout.idx_cols_val h c _).1) ((Layout.idx_cols_val h c _).2)
  rw [outAt_apply, Layout.block_apply, hcol, refVal_apply]
  refine congrArg silu (Finset.sum_congr rfl fun k _ => ?_)
  rw [Layout.block_apply, Layout.block_apply, hcol]
  refine congrArg (fun a => X a * _) (idx2_ext ?_ ?_)
  · refine ((Layout.idx_rows_val _ _ _).1).trans ?_
    show i.val / 256 * 256 + i.val % 256 = i.val
    omega
  · exact (Layout.idx_rows_val _ _ _).2

/-! ## The arrays -/

variable (m : (ℓ : Loc nD τ sig) → Buf (Elt Ideal) ℓ)

/-- The argument windows' one block is the whole array. -/
theorem xstg_eq (c : Dev nD) : xstg m c = m ((c : Thread nD τ).loc main_arg0) := by
  have hz : (fun a => (win0_0.index (0 : Fin 1)) a * main_arg0.ty.shape.size a) = fun _ => 0 :=
    funext fun a => by fin_cases a <;> decide
  exact Memref.read_access_unit_zero (Elt Ideal) main_arg0 hz (fun a => by fin_cases a <;> decide) _
theorem wstg_eq (c : Dev nD) : wstg m c = m ((c : Thread nD τ).loc main_arg1) := by
  have hz : (fun a => (win0_1.index (0 : Fin 1)) a * main_arg1.ty.shape.size a) = fun _ => 0 :=
    funext fun a => by fin_cases a <;> decide
  exact Memref.read_access_unit_zero (Elt Ideal) main_arg1 hz (fun a => by fin_cases a <;> decide) _

/-- The result array ends holding what the body left. -/
theorem finalA_out (c : Dev nD) : finalA m c (2 : Fin 3) = outAt (xstg m) (wstg m c) c := by
  refine (dats m 0 c).arrAt_eq_of_after_last (2 : Fin 3) (0 : Fin 1)
    ⟨rfl, fun t _ => fin_N t, fun a => by fin_cases a <;> exact ⟨rfl, rfl⟩⟩ _ fun j => ?_
  rfl
/-- The run's value: every device's result is its columns of the reference's. -/
theorem run_value (ρ : Dev nD → PrngReg) (X : FVec Ideal Cert.ReferenceIdeal.S4096x4096 .bf16) (W : FVec Ideal Cert.ReferenceIdeal.S4096x8192 .bf16)
    (hX : ∀ c : Dev nD, m ((c : Thread nD τ).loc main_arg0) = Layout.block ⟨2, ![256, 4096]⟩ ⟨2, ![4096, 4096]⟩ 0 16 c X)
    (hW : ∀ c : Dev nD, m ((c : Thread nD τ).loc main_arg1) = Layout.block ⟨2, ![4096, 512]⟩ ⟨2, ![4096, 8192]⟩ 1 16 c W) :
    θ_run defs (onTc (τ := τ) (main (F := Ideal))) ⟨m, fun _ => 0, ρ⟩ (fun r => ∀ c : Dev nD,
      r.2.mem ((c : Thread nD τ).loc main_v1) = Layout.block ⟨2, ![4096, 512]⟩ ⟨2, ![4096, 8192]⟩ 1 16 c (refVal X W)
      ∧ r.2.mem ((c : Thread nD τ).loc main_arg0) = m ((c : Thread nD τ).loc main_arg0)
      ∧ r.2.mem ((c : Thread nD τ).loc main_arg1) = m ((c : Thread nD τ).loc main_arg1)) := by
  refine (θ_run defs _ _).mono (fun _ h c => ⟨(h.1 c 2).trans ?_, (h.1 c 0).trans (finalA_x m c), (h.1 c 1).trans (finalA_w m c)⟩) (run_main m ρ)
  rw [finalA_out, wstg_eq, hW, show xstg m = _ from funext fun d => (xstg_eq m d).trans (hX d)]
  exact outAt_block X W c

end Cert.KernelIdeal.Ring

end
-- ==== Proof.Printed.BodyEq.lean ====
/-
  The printed body is the structured program of `Prog.lean`.
-/
module

public import proofs.«01_k».proof.Proof.Printed.Prog
public import Idealize.ShloMosaic.Lib.Tactic

@[expose] public section

noncomputable section

namespace Cert.Kernel.Ring

open Cert.Kernel Cert.Kernel.Gen
open Idealize.ShloMosaic Idealize.SL.Sem

variable {F : FTy → Type} [FloatOps F]

/-- The printed body is this program. -/
theorem body_eq (a0 : Memref sig .tc .vmem S256x4096 .bf16) (h0 : a0.IsWhole) (a1 : Memref sig .tc .vmem S4096x512 .bf16) (h1 : a1.IsWhole)
    (a2 : Memref sig .tc .vmem S4096x512 .f32) (h2 : a2.IsWhole) (a3 : Memref sig .tc .vmem S16x128x4096 .bf16) (h3 : a3.IsWhole)
    (a4 : Memref sig .tc .vmem S16x128x4096 .bf16) (h4 : a4.IsWhole) (a5 a6 a7 a8 : DmaSems sig S15x4) :
    cc0_body (F := F) a0 h0 a1 h1 a2 h2 a3 h3 a4 h4 a5 a6 a7 a8 = body a0 a1 a2 a3 h3 a4 h4 a5 a6 a7 a8 :=
  by sl_kernel_rfl

end Cert.Kernel.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import proofs.«01_k».proof.Proof.Printed.Run
public import Idealize.ShloMosaic.Adequacy
public import Idealize.ShloMosaic.Init

@[expose] public section

noncomputable section

namespace Cert.Proof

open Idealize.ShloMosaic Idealize.SL.Sem Cert.Kernel

/-- The reference declares no semaphore; its run is read at its arguments. -/
theorem frame_r : Cert.quiescent_ReferenceIdeal := fun m ρ _ =>
  (θ_run Cert.ReferenceIdeal.defs _ _).mono
    (fun r h => ⟨fun c => ⟨(h c).2.1, (h c).2.2⟩, sem_eq_zero_of_no_sems (by decide) r.2⟩)
    (Cert.ReferenceIdeal.Value.run (F := Ideal) m ρ)

/-- The kernel's result is, column block by column block, the reference's. -/
theorem algebraic : Cert.algebraic_KernelIdeal_ReferenceIdeal := fun m ρ m' ρ' _ hm =>
  ⟨_, Cert.KernelIdeal.Ring.run_value m ρ _ _ (fun c => (hm c).1) (fun c => (hm c).2),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  fun m ρ _ => Cert.Kernel.Ring.run_frame m ρ, fun m ρ _ => Cert.KernelIdeal.Ring.run_frame m ρ, frame_r, trivial, algebraic⟩

end Cert.Proof

end
